-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_sorted_weights_finite [hPre_ids_sorted_weights_finite : Cert.Pre_ids_sorted_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_ids_sorted_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_ids_sorted_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_ids_sorted_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_ids_sorted_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_ids_sorted_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_weights_finite [hPre_ids_sorted_weights_finite : Cert.Pre_ids_sorted_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_ids_sorted_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_ids_sorted_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_ids_sorted_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_ids_sorted_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_ids_sorted_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_sorted_weights_finite [hKernelIdeal : Cert.KernelIdeal.Facts] [hPre_ids_sorted_weights_finite : Cert.Pre_ids_sorted_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_sorted_weights_finite [hReferenceIdeal : Cert.ReferenceIdeal.Facts] [hPre_ids_sorted_weights_finite : Cert.Pre_ids_sorted_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "empty_mark" .f32 0xFF61B1E6#32 ⊥
  ∧ IdealRules.named_const.Statement Cert.KernelIdeal.κ "empty_mark" .bf16 0xFF62#16 ⊥
  ∧ IdealRules.named_const.Statement Cert.KernelIdeal.κ "empty_below" .f32 0xFCF0BDC2#32 ⊥

def algebraic_KernelIdeal_ReferenceIdeal_pre_ids_sorted_weights_finite [hKernelIdeal : Cert.KernelIdeal.Facts] [hReferenceIdeal : Cert.ReferenceIdeal.Facts] [hPre_ids_sorted_weights_finite : Cert.Pre_ids_sorted_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v96) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_weights_finite : Cert.Pre_ids_sorted_weights_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_weights_finite (hKernelIdeal := hKernelIdeal) (hPre_ids_sorted_weights_finite := hPre_ids_sorted_weights_finite)
    ∧ quiescent_ReferenceIdeal (hReferenceIdeal := hReferenceIdeal)
    ∧ quiescent_ReferenceIdeal_pre_ids_sorted_weights_finite (hReferenceIdeal := hReferenceIdeal) (hPre_ids_sorted_weights_finite := hPre_ids_sorted_weights_finite)
    ∧ preserves_Kernel_KernelIdeal
    ∧ algebraic_KernelIdeal_ReferenceIdeal_pre_ids_sorted_weights_finite (hKernelIdeal := hKernelIdeal) (hReferenceIdeal := hReferenceIdeal) (hPre_ids_sorted_weights_finite := hPre_ids_sorted_weights_finite)
-- ==== Pre_ids_in_range.lean ====
abbrev S320000x128 : Shape := ⟨2, ![320000, 128]⟩
abbrev S320000x3 : Shape := ⟨2, ![320000, 3]⟩
abbrev S320000 : Shape := ⟨1, ![320000]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S320000x128 .f32) (main_arg1 : FVec F S320000x3 .f32) (main_arg2 : IVec S320000 32) (main_arg3 : FVec F S128 .f32) (main_arg4 : FVec F S128 .f32) (main_arg5 : FVec F S128x256 .f32) (main_arg6 : FVec F S256 .f32) : IVec S320000 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 40000#32
  let main_v2 : IVec S320000 32 := broadcastInDim S320000 ![] bcast_S_S320000 main_c_0
  let main_v3 : IVec S320000 1 := cmpi .slt main_arg2 main_v2
  let main_v4 : IVec S320000 1 := andi main_v1 main_v3
  main_v4
-- ==== Pre_ids_sorted_weights_finite.lean ====
abbrev S320000x128 : Shape := ⟨2, ![320000, 128]⟩
abbrev S320000x3 : Shape := ⟨2, ![320000, 3]⟩
abbrev S320000 : Shape := ⟨1, ![320000]⟩
abbrev S128 : Shape := ⟨1, ![128]⟩
abbrev S128x256 : Shape := ⟨2, ![128, 256]⟩
abbrev S256 : Shape := ⟨1, ![256]⟩
abbrev S_ : Shape := ⟨0, ![]⟩
abbrev S319999 : Shape := ⟨1, ![319999]⟩

class Facts : Prop where
  bcast_S_S320000 : S_.BroadcastsInDim S320000 (![] : Fin 0 → Fin S320000.rank)
  slices_S320000_S319999_0 : S320000.Slices ![0] S319999
  slices_S320000_S319999_1 : S320000.Slices ![1] S319999
  bcast_S_S128 : S_.BroadcastsInDim S128 (![] : Fin 0 → Fin S128.rank)
  bcast_S_S128x256 : S_.BroadcastsInDim S128x256 (![] : Fin 0 → Fin S128x256.rank)
  bcast_S_S256 : S_.BroadcastsInDim S256 (![] : Fin 0 → Fin S256.rank)

variable [Facts]

def fn_part1 {F : FTy → Type} [FloatOps F] (main_v4 : IVec S320000 1) (main_v7 : IVec S319999 1) (main_v10 : IVec S128 1) (main_v13 : IVec S128 1) (main_v16 : IVec S128x256 1) (main_v17 : FVec F S256 .f32) (main_cst_3 : FVec F S_ .f32) : IVec S320000 1 × IVec S319999 1 × IVec S128 1 × IVec S128 1 × IVec S128x256 1 × IVec S256 1 :=
  let main_v18 : FVec F S256 .f32 := broadcastInDim S256 ![] bcast_S_S256 main_cst_3
  let main_v19 : IVec S256 1 := cmpf .olt main_v17 main_v18
  (main_v4, main_v7, main_v10, main_v13, main_v16, main_v19)

def fn {F : FTy → Type} [FloatOps F] (main_arg0 : FVec F S320000x128 .f32) (main_arg1 : FVec F S320000x3 .f32) (main_arg2 : IVec S320000 32) (main_arg3 : FVec F S128 .f32) (main_arg4 : FVec F S128 .f32) (main_arg5 : FVec F S128x256 .f32) (main_arg6 : FVec F S256 .f32) : IVec S320000 1 × IVec S319999 1 × IVec S128 1 × IVec S128 1 × IVec S128x256 1 × IVec S256 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 40000#32
  let main_v2 : IVec S320000 32 := broadcastInDim S320000 ![] bcast_S_S320000 main_c_0
  let main_v3 : IVec S320000 1 := cmpi .slt main_arg2 main_v2
  let main_v4 : IVec S320000 1 := andi main_v1 main_v3
  let main_v5 : IVec S319999 32 := (extractStridedSlice S319999 ![0] · slices_S320000_S319999_0) main_arg2
  let main_v6 : IVec S319999 32 := (extractStridedSlice S319999 ![1] · slices_S320000_S319999_1) main_arg2
  let main_v7 : IVec S319999 1 := cmpi .sle main_v5 main_v6
  let main_v8 : FVec F S128 .f32 := Host.absf main_arg3
  let main_cst : FVec F S_ .f32 := constant S_ .f32 0x7F800000#32
  let main_v9 : FVec F S128 .f32 := broadcastInDim S128 ![] bcast_S_S128 main_cst
  let main_v10 : IVec S128 1 := cmpf .olt main_v8 main_v9
  let main_v11 : FVec F S128 .f32 := Host.absf main_arg4
  let main_cst_1 : FVec F S_ .f32 := constant S_ .f32 0x7F800000#32
  let main_v12 : FVec F S128 .f32 := broadcastInDim S128 ![] bcast_S_S128 main_cst_1
  let main_v13 : IVec S128 1 := cmpf .olt main_v11 main_v12
  let main_v14 : FVec F S128x256 .f32 := Host.absf main_arg5
  let main_cst_2 : FVec F S_ .f32 := constant S_ .f32 0x7F800000#32
  let main_v15 : FVec F S128x256 .f32 := broadcastInDim S128x256 ![] bcast_S_S128x256 main_cst_2
  let main_v16 : IVec S128x256 1 := cmpf .olt main_v14 main_v15
  let main_v17 : FVec F S256 .f32 := Host.absf main_arg6
  let main_cst_3 : FVec F S_ .f32 := constant S_ .f32 0x7F800000#32
  fn_part1 (F := F) main_v4 main_v7 main_v10 main_v13 main_v16 main_v17 main_cst_3
-- ==== Kernel.lean ====
abbrev S320000x128 : Shape := ⟨2, ![320000, 128]⟩
abbrev S320000x3 : Shape := ⟨2, ![320000, 3]⟩
abbrev S320000 : Shape := ⟨1, ![320000]⟩
abbrev S128 : Shape := ⟨1, ![128]⟩
abbrev S128x256 : Shape := ⟨2, ![128, 256]⟩
abbrev S256 : Shape := ⟨1, ![256]⟩
abbrev S_ : Shape := ⟨0, ![]⟩
abbrev S319999 : Shape := ⟨1, ![319999]⟩
abbrev S1 : Shape := ⟨1, ![1]⟩
abbrev S319998 : Shape := ⟨1, ![319998]⟩
abbrev S2 : Shape := ⟨1, ![2]⟩
abbrev S319996 : Shape := ⟨1, ![319996]⟩
abbrev S4 : Shape := ⟨1, ![4]⟩
abbrev S319992 : Shape := ⟨1, ![319992]⟩
abbrev S8 : Shape := ⟨1, ![8]⟩
abbrev S319984 : Shape := ⟨1, ![319984]⟩
abbrev S16 : Shape := ⟨1, ![16]⟩
abbrev S320000x1 : Shape := ⟨2, ![320000, 1]⟩
abbrev S200x1x1600 : Shape := ⟨3, ![200, 1, 1600]⟩
abbrev S200x1600 : Shape := ⟨2, ![200, 1600]⟩
abbrev S200x1 : Shape := ⟨2, ![200, 1]⟩
abbrev S200 : Shape := ⟨1, ![200]⟩
abbrev S200x2 : Shape := ⟨2, ![200, 2]⟩
abbrev S200x1x2 : Shape := ⟨3, ![200, 1, 2]⟩
abbrev S320000x4 : Shape := ⟨2, ![320000, 4]⟩
abbrev S200x1600x4 : Shape := ⟨3, ![200, 1600, 4]⟩
abbrev S200x4x1600 : Shape := ⟨3, ![200, 4, 1600]⟩
abbrev S1x128 : Shape := ⟨2, ![1, 128]⟩
abbrev S1x256 : Shape := ⟨2, ![1, 256]⟩
abbrev S250x160x256 : Shape := ⟨3, ![250, 160, 256]⟩
abbrev S250x4x160 : Shape := ⟨3, ![250, 4, 160]⟩
abbrev S1x1x2 : Shape := ⟨3, ![1, 1, 2]⟩
abbrev S1600x128 : Shape := ⟨2, ![1600, 128]⟩
abbrev S1x4x1600 : Shape := ⟨3, ![1, 4, 1600]⟩
abbrev S1600x1 : Shape := ⟨2, ![1600, 1]⟩
abbrev S1x1x1600 : Shape := ⟨3, ![1, 1, 1600]⟩
abbrev S1600 : Shape := ⟨1, ![1600]⟩
abbrev S1600x256 : Shape := ⟨2, ![1600, 256]⟩
abbrev S1x1600 : Shape := ⟨2, ![1, 1600]⟩
abbrev S1x1 : Shape := ⟨2, ![1, 1]⟩
abbrev S1x1599 : Shape := ⟨2, ![1, 1599]⟩
abbrev S1x2 : Shape := ⟨2, ![1, 2]⟩
abbrev S1x1598 : Shape := ⟨2, ![1, 1598]⟩
abbrev S1x4 : Shape := ⟨2, ![1, 4]⟩
abbrev S1x1596 : Shape := ⟨2, ![1, 1596]⟩
abbrev S1x8 : Shape := ⟨2, ![1, 8]⟩
abbrev S1x1592 : Shape := ⟨2, ![1, 1592]⟩
abbrev S1x16 : Shape := ⟨2, ![1, 16]⟩
abbrev S1x1584 : Shape := ⟨2, ![1, 1584]⟩
abbrev S1x32 : Shape := ⟨2, ![1, 32]⟩
abbrev S1x1568 : Shape := ⟨2, ![1, 1568]⟩
abbrev S1x64 : Shape := ⟨2, ![1, 64]⟩
abbrev S1x1536 : Shape := ⟨2, ![1, 1536]⟩
abbrev S1x1472 : Shape := ⟨2, ![1, 1472]⟩
abbrev S1x1344 : Shape := ⟨2, ![1, 1344]⟩
abbrev S1x512 : Shape := ⟨2, ![1, 512]⟩
abbrev S1x1088 : Shape := ⟨2, ![1, 1088]⟩
abbrev S1x1024 : Shape := ⟨2, ![1, 1024]⟩
abbrev S1x576 : Shape := ⟨2, ![1, 576]⟩
abbrev S1x1x1 : Shape := ⟨3, ![1, 1, 1]⟩
abbrev S1599x256 : Shape := ⟨2, ![1599, 256]⟩
abbrev S1598x256 : Shape := ⟨2, ![1598, 256]⟩
abbrev S2x256 : Shape := ⟨2, ![2, 256]⟩
abbrev S1596x256 : Shape := ⟨2, ![1596, 256]⟩
abbrev S4x256 : Shape := ⟨2, ![4, 256]⟩
abbrev S1592x256 : Shape := ⟨2, ![1592, 256]⟩
abbrev S8x256 : Shape := ⟨2, ![8, 256]⟩
abbrev S1584x256 : Shape := ⟨2, ![1584, 256]⟩
abbrev S16x256 : Shape := ⟨2, ![16, 256]⟩
abbrev S4x1600 : Shape := ⟨2, ![4, 1600]⟩
abbrev S160x1600 : Shape := ⟨2, ![160, 1600]⟩
abbrev S320x1600 : Shape := ⟨2, ![320, 1600]⟩
abbrev S4x320 : Shape := ⟨2, ![4, 320]⟩
abbrev S1x4x160 : Shape := ⟨3, ![1, 4, 160]⟩
abbrev S4x160 : Shape := ⟨2, ![4, 160]⟩
abbrev S1x320 : Shape := ⟨2, ![1, 320]⟩
abbrev S320x1 : Shape := ⟨2, ![320, 1]⟩
abbrev S320x256 : Shape := ⟨2, ![320, 256]⟩
abbrev S2x160x256 : Shape := ⟨3, ![2, 160, 256]⟩
abbrev S2x160x1 : Shape := ⟨3, ![2, 160, 1]⟩
abbrev S1x160 : Shape := ⟨2, ![1, 160]⟩
abbrev S160x1 : Shape := ⟨2, ![160, 1]⟩
abbrev S160x256 : Shape := ⟨2, ![160, 256]⟩
abbrev S1x160x256 : Shape := ⟨3, ![1, 160, 256]⟩
abbrev S1x160x1 : Shape := ⟨3, ![1, 160, 1]⟩
abbrev S250x1x160 : Shape := ⟨3, ![250, 1, 160]⟩
abbrev S4x250x160 : Shape := ⟨3, ![4, 250, 160]⟩
abbrev S4x40000 : Shape := ⟨2, ![4, 40000]⟩
abbrev S3x40000 : Shape := ⟨2, ![3, 40000]⟩
abbrev S40000x3 : Shape := ⟨2, ![40000, 3]⟩
abbrev S40000x256 : Shape := ⟨2, ![40000, 256]⟩

abbrev nBuf : Space → Nat
  | .hbm => 149
  | .vmem => 14
  | .smem => 2
  | _ => 0

abbrev hbmTy0_0 (i : Nat) : BufTy := match i % 128 with
  | 0 => ⟨S320000x128, .f32⟩
  | 1 => ⟨S320000x3, .f32⟩
  | 2 => ⟨S320000, .i32⟩
  | 3 => ⟨S128, .f32⟩
  | 4 => ⟨S128, .f32⟩
  | 5 => ⟨S128x256, .f32⟩
  | 6 => ⟨S256, .f32⟩
  | 7 => ⟨S320000, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S320000, .i32⟩
  | 15 => ⟨S320000, .i32⟩
  | 16 => ⟨S_, .i32⟩
  | 17 => ⟨S320000, .i32⟩
  | 18 => ⟨S320000, .i1⟩
  | 19 => ⟨S_, .i32⟩
  | 20 => ⟨S320000, .i32⟩
  | 21 => ⟨S320000, .i1⟩
  | 22 => ⟨S_, .i32⟩
  | 23 => ⟨S_, .i1⟩
  | 24 => ⟨S320000, .i1⟩
  | 25 => ⟨S320000, .i1⟩
  | 26 => ⟨S320000, .i1⟩
  | 27 => ⟨S320000, .i32⟩
  | 28 => ⟨S320000, .i32⟩
  | 29 => ⟨S320000, .i32⟩
  | 30 => ⟨S_, .i32⟩
  | 31 => ⟨S320000, .i32⟩
  | 32 => ⟨S319999, .i32⟩
  | 33 => ⟨S319999, .i32⟩
  | 34 => ⟨S319999, .i1⟩
  | 35 => ⟨S_, .i1⟩
  | 36 => ⟨S1, .i1⟩
  | 37 => ⟨S320000, .i1⟩
  | 38 => ⟨S_, .i32⟩
  | 39 => ⟨S320000, .i32⟩
  | 40 => ⟨S320000, .i32⟩
  | 41 => ⟨S_, .i32⟩
  | 42 => ⟨S320000, .i32⟩
  | 43 => ⟨S320000, .i1⟩
  | 44 => ⟨S320000, .i1⟩
  | 45 => ⟨S320000, .i32⟩
  | 46 => ⟨S_, .i32⟩
  | 47 => ⟨S320000, .i32⟩
  | 48 => ⟨S320000, .i32⟩
  | 49 => ⟨S320000, .i32⟩
  | 50 => ⟨S319998, .i32⟩
  | 51 => ⟨S319998, .i32⟩
  | 52 => ⟨S319998, .i1⟩
  | 53 => ⟨S_, .i1⟩
  | 54 => ⟨S2, .i1⟩
  | 55 => ⟨S320000, .i1⟩
  | 56 => ⟨S_, .i32⟩
  | 57 => ⟨S320000, .i32⟩
  | 58 => ⟨S320000, .i32⟩
  | 59 => ⟨S_, .i32⟩
  | 60 => ⟨S320000, .i32⟩
  | 61 => ⟨S320000, .i1⟩
  | 62 => ⟨S320000, .i1⟩
  | 63 => ⟨S320000, .i32⟩
  | 64 => ⟨S_, .i32⟩
  | 65 => ⟨S320000, .i32⟩
  | 66 => ⟨S320000, .i32⟩
  | 67 => ⟨S320000, .i32⟩
  | 68 => ⟨S319996, .i32⟩
  | 69 => ⟨S319996, .i32⟩
  | 70 => ⟨S319996, .i1⟩
  | 71 => ⟨S_, .i1⟩
  | 72 => ⟨S4, .i1⟩
  | 73 => ⟨S320000, .i1⟩
  | 74 => ⟨S_, .i32⟩
  | 75 => ⟨S320000, .i32⟩
  | 76 => ⟨S320000, .i32⟩
  | 77 => ⟨S_, .i32⟩
  | 78 => ⟨S320000, .i32⟩
  | 79 => ⟨S320000, .i1⟩
  | 80 => ⟨S320000, .i1⟩
  | 81 => ⟨S320000, .i32⟩
  | 82 => ⟨S_, .i32⟩
  | 83 => ⟨S320000, .i32⟩
  | 84 => ⟨S320000, .i32⟩
  | 85 => ⟨S320000, .i32⟩
  | 86 => ⟨S319992, .i32⟩
  | 87 => ⟨S319992, .i32⟩
  | 88 => ⟨S319992, .i1⟩
  | 89 => ⟨S_, .i1⟩
  | 90 => ⟨S8, .i1⟩
  | 91 => ⟨S320000, .i1⟩
  | 92 => ⟨S_, .i32⟩
  | 93 => ⟨S320000, .i32⟩
  | 94 => ⟨S320000, .i32⟩
  | 95 => ⟨S_, .i32⟩
  | 96 => ⟨S320000, .i32⟩
  | 97 => ⟨S320000, .i1⟩
  | 98 => ⟨S320000, .i1⟩
  | 99 => ⟨S320000, .i32⟩
  | 100 => ⟨S_, .i32⟩
  | 101 => ⟨S320000, .i32⟩
  | 102 => ⟨S320000, .i32⟩
  | 103 => ⟨S320000, .i32⟩
  | 104 => ⟨S319984, .i32⟩
  | 105 => ⟨S319984, .i32⟩
  | 106 => ⟨S319984, .i1⟩
  | 107 => ⟨S_, .i1⟩
  | 108 => ⟨S16, .i1⟩
  | 109 => ⟨S320000, .i1⟩
  | 110 => ⟨S_, .i32⟩
  | 111 => ⟨S320000, .i32⟩
  | 112 => ⟨S320000, .i32⟩
  | 113 => ⟨S_, .i32⟩
  | 114 => ⟨S320000, .i32⟩
  | 115 => ⟨S320000, .i1⟩
  | 116 => ⟨S320000, .i1⟩
  | 117 => ⟨S320000, .i32⟩
  | 118 => ⟨S_, .i32⟩
  | 119 => ⟨S320000, .i32⟩
  | 120 => ⟨S320000, .i32⟩
  | 121 => ⟨S320000, .i32⟩
  | 122 => ⟨S320000x1, .i32⟩
  | 123 => ⟨S200x1x1600, .i32⟩
  | 124 => ⟨S200x1600, .i32⟩
  | 125 => ⟨S200x1, .i32⟩
  | 126 => ⟨S200, .i32⟩
  | 127 => ⟨S200x1, .i32⟩
  | _ => ⟨S320000x128, .f32⟩

abbrev hbmTy0_1 (i : Nat) : BufTy := match i % 128 with
  | 0 => ⟨S200, .i32⟩
  | 1 => ⟨S200x1, .i32⟩
  | 2 => ⟨S200x1, .i32⟩
  | 3 => ⟨S200x2, .i32⟩
  | 4 => ⟨S200x1x2, .i32⟩
  | 5 => ⟨S_, .f32⟩
  | 6 => ⟨S320000x1, .f32⟩
  | 7 => ⟨S320000x4, .f32⟩
  | 8 => ⟨S200x1600x4, .f32⟩
  | 9 => ⟨S200x4x1600, .f32⟩
  | 10 => ⟨S1x128, .f32⟩
  | 11 => ⟨S1x128, .f32⟩
  | 12 => ⟨S128x256, .bf16⟩
  | 13 => ⟨S1x256, .f32⟩
  | 14 => ⟨S250x160x256, .f32⟩
  | 15 => ⟨S250x4x160, .f32⟩
  | 16 => ⟨S4x250x160, .f32⟩
  | 17 => ⟨S4x40000, .f32⟩
  | 18 => ⟨S3x40000, .f32⟩
  | 19 => ⟨S40000x3, .f32⟩
  | 20 => ⟨S40000x256, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | .local _ .vmem, ⟨0, _⟩ => ⟨S1600x128, .f32⟩
  | .local _ .vmem, ⟨1, _⟩ => ⟨S1600x128, .f32⟩
  | .local _ .vmem, ⟨2, _⟩ => ⟨S1x4x1600, .f32⟩
  | .local _ .vmem, ⟨3, _⟩ => ⟨S1x4x1600, .f32⟩
  | .local _ .vmem, ⟨4, _⟩ => ⟨S1600x1, .i32⟩
  | .local _ .vmem, ⟨5, _⟩ => ⟨S1600x1, .i32⟩
  | .local _ .vmem, ⟨6, _⟩ => ⟨S1x1x1600, .i32⟩
  | .local _ .vmem, ⟨7, _⟩ => ⟨S1x1x1600, .i32⟩
  | .local _ .vmem, ⟨8, _⟩ => ⟨S1x128, .f32⟩
  | .local _ .vmem, ⟨9, _⟩ => ⟨S1x128, .f32⟩
  | .local _ .vmem, ⟨10, _⟩ => ⟨S128x256, .bf16⟩
  | .local _ .vmem, ⟨11, _⟩ => ⟨S1x256, .f32⟩
  | .local _ .vmem, ⟨12, _⟩ => ⟨S250x160x256, .f32⟩
  | .local _ .vmem, ⟨13, _⟩ => ⟨S250x4x160, .f32⟩
  | .local _ .smem, ⟨0, _⟩ => ⟨S1x1x2, .i32⟩
  | .local _ .smem, ⟨1, _⟩ => ⟨S1x1x2, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_c_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_4 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_v20 : Ref sig .tc := ⟨.hbm, 54, rfl⟩
abbrev main_v21 : Ref sig .tc := ⟨.hbm, 55, rfl⟩
abbrev main_c_6 : Ref sig .tc := ⟨.hbm, 56, rfl⟩
abbrev main_v22 : Ref sig .tc := ⟨.hbm, 57, rfl⟩
abbrev main_v23 : Ref sig .tc := ⟨.hbm, 58, rfl⟩
abbrev main_c_7 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_8 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_9 : Ref sig .tc := ⟨.hbm, 71, rfl⟩
abbrev main_v34 : Ref sig .tc := ⟨.hbm, 72, rfl⟩
abbrev main_v35 : Ref sig .tc := ⟨.hbm, 73, rfl⟩
abbrev main_c_10 : Ref sig .tc := ⟨.hbm, 74, rfl⟩
abbrev main_v36 : Ref sig .tc := ⟨.hbm, 75, rfl⟩
abbrev main_v37 : Ref sig .tc := ⟨.hbm, 76, rfl⟩
abbrev main_c_11 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_12 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_13 : Ref sig .tc := ⟨.hbm, 89, rfl⟩
abbrev main_v48 : Ref sig .tc := ⟨.hbm, 90, rfl⟩
abbrev main_v49 : Ref sig .tc := ⟨.hbm, 91, rfl⟩
abbrev main_c_14 : Ref sig .tc := ⟨.hbm, 92, rfl⟩
abbrev main_v50 : Ref sig .tc := ⟨.hbm, 93, rfl⟩
abbrev main_v51 : Ref sig .tc := ⟨.hbm, 94, rfl⟩
abbrev main_c_15 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_16 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_17 : Ref sig .tc := ⟨.hbm, 107, rfl⟩
abbrev main_v62 : Ref sig .tc := ⟨.hbm, 108, rfl⟩
abbrev main_v63 : Ref sig .tc := ⟨.hbm, 109, rfl⟩
abbrev main_c_18 : Ref sig .tc := ⟨.hbm, 110, rfl⟩
abbrev main_v64 : Ref sig .tc := ⟨.hbm, 111, rfl⟩
abbrev main_v65 : Ref sig .tc := ⟨.hbm, 112, rfl⟩
abbrev main_c_19 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_20 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92_0 : Ref sig .tc := ⟨.hbm, 142, rfl⟩
abbrev main_v92_1 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![200], ![false]⟩

def k0_off1 (v233 : BitVec 32) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let v280 : Index := Scalar.indexCast v271
  let c0_95 : Index := 0#32
  let c0_96 : Index := 0#32
  ![v280.toNat, 0, 0]

def k0_off2 (v233 : BitVec 32) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c1_i32_99 : BitVec 32 := 1#32
  let v288 : BitVec 32 := Scalar.addi v271 c1_i32_99
  let v289 : Index := Scalar.indexCast v288
  let c0_100 : Index := 0#32
  let c0_101 : Index := 0#32
  ![v289.toNat, 0, 0]
def k0_off3 (v233 : BitVec 32) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let v309 : Index := Scalar.indexCast v271
  let c0_108 : Index := 0#32
  let c0_109 : Index := 0#32
  ![v309.toNat, 0, 0]
@[reducible] def k0_t1_loop (v156 : BitVec 32) : Scf.Loop 32 :=
  let c1_i32_113 : BitVec 32 := 1#32
  let c0_i32_54 : BitVec 32 := 0#32
  let v158 : BitVec 1 := Scalar.cmpi .sgt v156 c0_i32_54
  let v159 : BitVec 32 := Scalar.extui v158
  let c0_i32_55 : BitVec 32 := 0#32
  let v160 : BitVec 1 := Scalar.cmpi .slt v156 c0_i32_55
  let v161 : BitVec 32 := Scalar.extui v160
  let v162 : BitVec 32 := Scalar.subi v159 v161
  let c32_i32 : BitVec 32 := 32#32
  let c0_i32_56 : BitVec 32 := 0#32
  let v163 : BitVec 1 := Scalar.cmpi .sgt c32_i32 c0_i32_56
  let v164 : BitVec 32 := Scalar.extui v163
  let c0_i32_57 : BitVec 32 := 0#32
  let v165 : BitVec 1 := Scalar.cmpi .slt c32_i32 c0_i32_57
  let v166 : BitVec 32 := Scalar.extui v165
  let v167 : BitVec 32 := Scalar.subi v164 v166
  let v168 : BitVec 1 := Scalar.cmpi .ne v162 v167
  let v169 : BitVec 32 := Scalar.remsi v156 c32_i32
  let c0_i32_58 : BitVec 32 := 0#32
  let v170 : BitVec 1 := Scalar.cmpi .ne v169 c0_i32_58
  let v171 : BitVec 1 := Scalar.andi v168 v170
  let v157 : BitVec 32 := Scalar.divsi v156 c32_i32
  let c1_i32_59 : BitVec 32 := 1#32
  let v172 : BitVec 32 := Scalar.subi v157 c1_i32_59
  let v173 : BitVec 32 := Scalar.select v171 v172 v157
  let c1_i32_60 : BitVec 32 := 1#32
  let v174 : BitVec 32 := Scalar.addi v173 c1_i32_60
  let v320 : BitVec 32 := Scalar.subi v174 c1_i32_113
  let c1_i32_114 : BitVec 32 := 1#32
  let v322 : BitVec 32 := Scalar.divsi v320 c1_i32_114
  let v323 : BitVec 32 := Scalar.muli v322 c1_i32_114
  let v324 : BitVec 32 := Scalar.addi c1_i32_113 v323
  let c1_i32_115 : BitVec 32 := 1#32
  ⟨c1_i32_113, v324, c1_i32_115⟩

def k0_off4 (v233 : BitVec 32) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let v348 : Index := Scalar.indexCast v271
  let c0_128 : Index := 0#32
  let c0_129 : Index := 0#32
  ![v348.toNat, 0, 0]
@[reducible] def k0_t2_loop (v156 : BitVec 32) : Scf.Loop 32 :=
  let c1_i32_113 : BitVec 32 := 1#32
  let c0_i32_54 : BitVec 32 := 0#32
  let v158 : BitVec 1 := Scalar.cmpi .sgt v156 c0_i32_54
  let v159 : BitVec 32 := Scalar.extui v158
  let c0_i32_55 : BitVec 32 := 0#32
  let v160 : BitVec 1 := Scalar.cmpi .slt v156 c0_i32_55
  let v161 : BitVec 32 := Scalar.extui v160
  let v162 : BitVec 32 := Scalar.subi v159 v161
  let c32_i32 : BitVec 32 := 32#32
  let c0_i32_56 : BitVec 32 := 0#32
  let v163 : BitVec 1 := Scalar.cmpi .sgt c32_i32 c0_i32_56
  let v164 : BitVec 32 := Scalar.extui v163
  let c0_i32_57 : BitVec 32 := 0#32
  let v165 : BitVec 1 := Scalar.cmpi .slt c32_i32 c0_i32_57
  let v166 : BitVec 32 := Scalar.extui v165
  let v167 : BitVec 32 := Scalar.subi v164 v166
  let v168 : BitVec 1 := Scalar.cmpi .ne v162 v167
  let v169 : BitVec 32 := Scalar.remsi v156 c32_i32
  let c0_i32_58 : BitVec 32 := 0#32
  let v170 : BitVec 1 := Scalar.cmpi .ne v169 c0_i32_58
  let v171 : BitVec 1 := Scalar.andi v168 v170
  let v157 : BitVec 32 := Scalar.divsi v156 c32_i32
  let c1_i32_59 : BitVec 32 := 1#32
  let v172 : BitVec 32 := Scalar.subi v157 c1_i32_59
  let v173 : BitVec 32 := Scalar.select v171 v172 v157
  let c1_i32_60 : BitVec 32 := 1#32
  let v174 : BitVec 32 := Scalar.addi v173 c1_i32_60
  let v320 : BitVec 32 := Scalar.subi v174 c1_i32_113
  let c1_i32_114 : BitVec 32 := 1#32
  let v322 : BitVec 32 := Scalar.divsi v320 c1_i32_114
  let v323 : BitVec 32 := Scalar.muli v322 c1_i32_114
  let v324 : BitVec 32 := Scalar.addi c1_i32_113 v323
  let v321 : BitVec 32 := Scalar.addi c1_i32_113 v320
  let c1_i32_116 : BitVec 32 := 1#32
  ⟨v324, v321, c1_i32_116⟩

def k0_chk2 (v156 : BitVec 32) : Prop :=
  ((k0_t1_loop v156).OK) ∧
  ((k0_t2_loop v156).OK)
theorem k0_t1_ok : ∀ (v156 : BitVec 32) (k0_hw2 : k0_chk2 v156), (k0_t1_loop v156).OK := fun v156 k0_hw2 => k0_hw2.1
theorem k0_t2_ok : ∀ (v156 : BitVec 32) (k0_hw2 : k0_chk2 v156), (k0_t2_loop v156).OK := fun v156 k0_hw2 => k0_hw2.2

def k0_off5 (v233 : BitVec 32) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let v348 : Index := Scalar.indexCast v271
  let c0_128 : Index := 0#32
  let c0_129 : Index := 0#32
  ![v348.toNat, 0, 0]

def k0_chk1 (v156 : BitVec 32) (v233 : BitVec 32) : Prop :=
  (∀ a, (k0_off1 v233) a + S1x4x160.size a ≤ S250x4x160.size a) ∧
  (∀ a, (k0_off2 v233) a + S1x4x160.size a ≤ S250x4x160.size a) ∧
  (∀ a, (k0_off3 v233) a + S2x160x256.size a ≤ S250x160x256.size a) ∧
  (∀ k0_t1 : Fin (k0_t1_loop v156).trips, ∀ a, (k0_off4 v233) a + S2x160x256.size a ≤ S250x160x256.size a) ∧
  (∀ k0_t2 : Fin (k0_t2_loop v156).trips, ∀ a, (k0_off5 v233) a + S2x160x256.size a ≤ S250x160x256.size a)
theorem k0_off1_inb : ∀ (v156 : BitVec 32) (v233 : BitVec 32) (k0_hw1 : k0_chk1 v156 v233), ∀ a, (k0_off1 v233) a + S1x4x160.size a ≤ S250x4x160.size a := fun v156 v233 k0_hw1 => k0_hw1.1
theorem k0_off2_inb : ∀ (v156 : BitVec 32) (v233 : BitVec 32) (k0_hw1 : k0_chk1 v156 v233), ∀ a, (k0_off2 v233) a + S1x4x160.size a ≤ S250x4x160.size a := fun v156 v233 k0_hw1 => k0_hw1.2.1
theorem k0_off3_inb : ∀ (v156 : BitVec 32) (v233 : BitVec 32) (k0_hw1 : k0_chk1 v156 v233), ∀ a, (k0_off3 v233) a + S2x160x256.size a ≤ S250x160x256.size a := fun v156 v233 k0_hw1 => k0_hw1.2.2.1
theorem k0_off4_inb : ∀ (v156 : BitVec 32) (v233 : BitVec 32) (k0_hw1 : k0_chk1 v156 v233) (k0_t1 : Fin (k0_t1_loop v156).trips), ∀ a, (k0_off4 v233) a + S2x160x256.size a ≤ S250x160x256.size a := fun v156 v233 k0_hw1 k0_t1 => k0_hw1.2.2.2.1 k0_t1
theorem k0_off5_inb : ∀ (v156 : BitVec 32) (v233 : BitVec 32) (k0_hw1 : k0_chk1 v156 v233) (k0_t2 : Fin (k0_t2_loop v156).trips), ∀ a, (k0_off5 v233) a + S2x160x256.size a ≤ S250x160x256.size a := fun v156 v233 k0_hw1 k0_t2 => k0_hw1.2.2.2.2 k0_t2

@[reducible] def k0_t3_loop (v233 : BitVec 32) (v234 : BitVec 32) : Scf.Loop 32 :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c0_i32_87 : BitVec 32 := 0#32
  let v253 : BitVec 1 := Scalar.cmpi .sgt v234 c0_i32_87
  let v254 : BitVec 32 := Scalar.extui v253
  let c0_i32_88 : BitVec 32 := 0#32
  let v255 : BitVec 1 := Scalar.cmpi .slt v234 c0_i32_88
  let v256 : BitVec 32 := Scalar.extui v255
  let v257 : BitVec 32 := Scalar.subi v254 v256
  let c160_i32_86 : BitVec 32 := 160#32
  let c0_i32_89 : BitVec 32 := 0#32
  let v258 : BitVec 1 := Scalar.cmpi .sgt c160_i32_86 c0_i32_89
  let v259 : BitVec 32 := Scalar.extui v258
  let c0_i32_90 : BitVec 32 := 0#32
  let v260 : BitVec 1 := Scalar.cmpi .slt c160_i32_86 c0_i32_90
  let v261 : BitVec 32 := Scalar.extui v260
  let v262 : BitVec 32 := Scalar.subi v259 v261
  let v263 : BitVec 1 := Scalar.cmpi .ne v257 v262
  let v264 : BitVec 32 := Scalar.remsi v234 c160_i32_86
  let c0_i32_91 : BitVec 32 := 0#32
  let v265 : BitVec 1 := Scalar.cmpi .ne v264 c0_i32_91
  let v266 : BitVec 1 := Scalar.andi v263 v265
  let v252 : BitVec 32 := Scalar.divsi v234 c160_i32_86
  let c1_i32_92 : BitVec 32 := 1#32
  let v267 : BitVec 32 := Scalar.subi v252 c1_i32_92
  let v268 : BitVec 32 := Scalar.select v266 v267 v252
  let c1_i32_118 : BitVec 32 := 1#32
  let v326 : BitVec 32 := Scalar.addi v268 c1_i32_118
  let v327 : BitVec 32 := Scalar.subi v326 v325
  let c1_i32_120 : BitVec 32 := 1#32
  let v329 : BitVec 32 := Scalar.divsi v327 c1_i32_120
  let v330 : BitVec 32 := Scalar.muli v329 c1_i32_120
  let v331 : BitVec 32 := Scalar.addi v325 v330
  let c1_i32_121 : BitVec 32 := 1#32
  ⟨v325, v331, c1_i32_121⟩

def k0_off6 (v233 : BitVec 32) (v234 : BitVec 32) (k0_t3 : Fin (k0_t3_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c1_i32_121 : BitVec 32 := 1#32
  let arg12 : BitVec 32 := Scf.iv v325 c1_i32_121 k0_t3
  let v343 : Index := Scalar.indexCast arg12
  let c0_126 : Index := 0#32
  let c0_127 : Index := 0#32
  ![v343.toNat, 0, 0]
def k0_off7 (v233 : BitVec 32) (v234 : BitVec 32) (k0_t3 : Fin (k0_t3_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c1_i32_121 : BitVec 32 := 1#32
  let arg12 : BitVec 32 := Scf.iv v325 c1_i32_121 k0_t3
  let v362 : Index := Scalar.indexCast arg12
  let c0_134 : Index := 0#32
  let c0_135 : Index := 0#32
  ![v362.toNat, 0, 0]
@[reducible] def k0_t4_loop (v156 : BitVec 32) : Scf.Loop 32 :=
  let c1_i32_139 : BitVec 32 := 1#32
  let c0_i32_54 : BitVec 32 := 0#32
  let v158 : BitVec 1 := Scalar.cmpi .sgt v156 c0_i32_54
  let v159 : BitVec 32 := Scalar.extui v158
  let c0_i32_55 : BitVec 32 := 0#32
  let v160 : BitVec 1 := Scalar.cmpi .slt v156 c0_i32_55
  let v161 : BitVec 32 := Scalar.extui v160
  let v162 : BitVec 32 := Scalar.subi v159 v161
  let c32_i32 : BitVec 32 := 32#32
  let c0_i32_56 : BitVec 32 := 0#32
  let v163 : BitVec 1 := Scalar.cmpi .sgt c32_i32 c0_i32_56
  let v164 : BitVec 32 := Scalar.extui v163
  let c0_i32_57 : BitVec 32 := 0#32
  let v165 : BitVec 1 := Scalar.cmpi .slt c32_i32 c0_i32_57
  let v166 : BitVec 32 := Scalar.extui v165
  let v167 : BitVec 32 := Scalar.subi v164 v166
  let v168 : BitVec 1 := Scalar.cmpi .ne v162 v167
  let v169 : BitVec 32 := Scalar.remsi v156 c32_i32
  let c0_i32_58 : BitVec 32 := 0#32
  let v170 : BitVec 1 := Scalar.cmpi .ne v169 c0_i32_58
  let v171 : BitVec 1 := Scalar.andi v168 v170
  let v157 : BitVec 32 := Scalar.divsi v156 c32_i32
  let c1_i32_59 : BitVec 32 := 1#32
  let v172 : BitVec 32 := Scalar.subi v157 c1_i32_59
  let v173 : BitVec 32 := Scalar.select v171 v172 v157
  let c1_i32_60 : BitVec 32 := 1#32
  let v174 : BitVec 32 := Scalar.addi v173 c1_i32_60
  let v373 : BitVec 32 := Scalar.subi v174 c1_i32_139
  let c1_i32_140 : BitVec 32 := 1#32
  let v375 : BitVec 32 := Scalar.divsi v373 c1_i32_140
  let v376 : BitVec 32 := Scalar.muli v375 c1_i32_140
  let v377 : BitVec 32 := Scalar.addi c1_i32_139 v376
  let c1_i32_141 : BitVec 32 := 1#32
  ⟨c1_i32_139, v377, c1_i32_141⟩
def k0_off8 (v233 : BitVec 32) (v234 : BitVec 32) (k0_t3 : Fin (k0_t3_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c1_i32_121 : BitVec 32 := 1#32
  let arg12 : BitVec 32 := Scf.iv v325 c1_i32_121 k0_t3
  let v391 : Index := Scalar.indexCast arg12
  let c0_147 : Index := 0#32
  let c0_148 : Index := 0#32
  ![v391.toNat, 0, 0]
@[reducible] def k0_t5_loop (v156 : BitVec 32) : Scf.Loop 32 :=
  let c1_i32_139 : BitVec 32 := 1#32
  let c0_i32_54 : BitVec 32 := 0#32
  let v158 : BitVec 1 := Scalar.cmpi .sgt v156 c0_i32_54
  let v159 : BitVec 32 := Scalar.extui v158
  let c0_i32_55 : BitVec 32 := 0#32
  let v160 : BitVec 1 := Scalar.cmpi .slt v156 c0_i32_55
  let v161 : BitVec 32 := Scalar.extui v160
  let v162 : BitVec 32 := Scalar.subi v159 v161
  let c32_i32 : BitVec 32 := 32#32
  let c0_i32_56 : BitVec 32 := 0#32
  let v163 : BitVec 1 := Scalar.cmpi .sgt c32_i32 c0_i32_56
  let v164 : BitVec 32 := Scalar.extui v163
  let c0_i32_57 : BitVec 32 := 0#32
  let v165 : BitVec 1 := Scalar.cmpi .slt c32_i32 c0_i32_57
  let v166 : BitVec 32 := Scalar.extui v165
  let v167 : BitVec 32 := Scalar.subi v164 v166
  let v168 : BitVec 1 := Scalar.cmpi .ne v162 v167
  let v169 : BitVec 32 := Scalar.remsi v156 c32_i32
  let c0_i32_58 : BitVec 32 := 0#32
  let v170 : BitVec 1 := Scalar.cmpi .ne v169 c0_i32_58
  let v171 : BitVec 1 := Scalar.andi v168 v170
  let v157 : BitVec 32 := Scalar.divsi v156 c32_i32
  let c1_i32_59 : BitVec 32 := 1#32
  let v172 : BitVec 32 := Scalar.subi v157 c1_i32_59
  let v173 : BitVec 32 := Scalar.select v171 v172 v157
  let c1_i32_60 : BitVec 32 := 1#32
  let v174 : BitVec 32 := Scalar.addi v173 c1_i32_60
  let v373 : BitVec 32 := Scalar.subi v174 c1_i32_139
  let c1_i32_140 : BitVec 32 := 1#32
  let v375 : BitVec 32 := Scalar.divsi v373 c1_i32_140
  let v376 : BitVec 32 := Scalar.muli v375 c1_i32_140
  let v377 : BitVec 32 := Scalar.addi c1_i32_139 v376
  let v374 : BitVec 32 := Scalar.addi c1_i32_139 v373
  let c1_i32_142 : BitVec 32 := 1#32
  ⟨v377, v374, c1_i32_142⟩
def k0_off9 (v233 : BitVec 32) (v234 : BitVec 32) (k0_t3 : Fin (k0_t3_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c1_i32_121 : BitVec 32 := 1#32
  let arg12 : BitVec 32 := Scf.iv v325 c1_i32_121 k0_t3
  let v391 : Index := Scalar.indexCast arg12
  let c0_147 : Index := 0#32
  let c0_148 : Index := 0#32
  ![v391.toNat, 0, 0]
@[reducible] def k0_t6_loop (v233 : BitVec 32) (v234 : BitVec 32) : Scf.Loop 32 :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c0_i32_87 : BitVec 32 := 0#32
  let v253 : BitVec 1 := Scalar.cmpi .sgt v234 c0_i32_87
  let v254 : BitVec 32 := Scalar.extui v253
  let c0_i32_88 : BitVec 32 := 0#32
  let v255 : BitVec 1 := Scalar.cmpi .slt v234 c0_i32_88
  let v256 : BitVec 32 := Scalar.extui v255
  let v257 : BitVec 32 := Scalar.subi v254 v256
  let c160_i32_86 : BitVec 32 := 160#32
  let c0_i32_89 : BitVec 32 := 0#32
  let v258 : BitVec 1 := Scalar.cmpi .sgt c160_i32_86 c0_i32_89
  let v259 : BitVec 32 := Scalar.extui v258
  let c0_i32_90 : BitVec 32 := 0#32
  let v260 : BitVec 1 := Scalar.cmpi .slt c160_i32_86 c0_i32_90
  let v261 : BitVec 32 := Scalar.extui v260
  let v262 : BitVec 32 := Scalar.subi v259 v261
  let v263 : BitVec 1 := Scalar.cmpi .ne v257 v262
  let v264 : BitVec 32 := Scalar.remsi v234 c160_i32_86
  let c0_i32_91 : BitVec 32 := 0#32
  let v265 : BitVec 1 := Scalar.cmpi .ne v264 c0_i32_91
  let v266 : BitVec 1 := Scalar.andi v263 v265
  let v252 : BitVec 32 := Scalar.divsi v234 c160_i32_86
  let c1_i32_92 : BitVec 32 := 1#32
  let v267 : BitVec 32 := Scalar.subi v252 c1_i32_92
  let v268 : BitVec 32 := Scalar.select v266 v267 v252
  let c1_i32_118 : BitVec 32 := 1#32
  let v326 : BitVec 32 := Scalar.addi v268 c1_i32_118
  let v327 : BitVec 32 := Scalar.subi v326 v325
  let c1_i32_120 : BitVec 32 := 1#32
  let v329 : BitVec 32 := Scalar.divsi v327 c1_i32_120
  let v330 : BitVec 32 := Scalar.muli v329 c1_i32_120
  let v331 : BitVec 32 := Scalar.addi v325 v330
  let v328 : BitVec 32 := Scalar.addi v325 v327
  let c1_i32_122 : BitVec 32 := 1#32
  ⟨v331, v328, c1_i32_122⟩
def k0_off10 (v233 : BitVec 32) (v234 : BitVec 32) (k0_t6 : Fin (k0_t6_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c0_i32_87 : BitVec 32 := 0#32
  let v253 : BitVec 1 := Scalar.cmpi .sgt v234 c0_i32_87
  let v254 : BitVec 32 := Scalar.extui v253
  let c0_i32_88 : BitVec 32 := 0#32
  let v255 : BitVec 1 := Scalar.cmpi .slt v234 c0_i32_88
  let v256 : BitVec 32 := Scalar.extui v255
  let v257 : BitVec 32 := Scalar.subi v254 v256
  let c160_i32_86 : BitVec 32 := 160#32
  let c0_i32_89 : BitVec 32 := 0#32
  let v258 : BitVec 1 := Scalar.cmpi .sgt c160_i32_86 c0_i32_89
  let v259 : BitVec 32 := Scalar.extui v258
  let c0_i32_90 : BitVec 32 := 0#32
  let v260 : BitVec 1 := Scalar.cmpi .slt c160_i32_86 c0_i32_90
  let v261 : BitVec 32 := Scalar.extui v260
  let v262 : BitVec 32 := Scalar.subi v259 v261
  let v263 : BitVec 1 := Scalar.cmpi .ne v257 v262
  let v264 : BitVec 32 := Scalar.remsi v234 c160_i32_86
  let c0_i32_91 : BitVec 32 := 0#32
  let v265 : BitVec 1 := Scalar.cmpi .ne v264 c0_i32_91
  let v266 : BitVec 1 := Scalar.andi v263 v265
  let v252 : BitVec 32 := Scalar.divsi v234 c160_i32_86
  let c1_i32_92 : BitVec 32 := 1#32
  let v267 : BitVec 32 := Scalar.subi v252 c1_i32_92
  let v268 : BitVec 32 := Scalar.select v266 v267 v252
  let c1_i32_118 : BitVec 32 := 1#32
  let v326 : BitVec 32 := Scalar.addi v268 c1_i32_118
  let v327 : BitVec 32 := Scalar.subi v326 v325
  let c1_i32_120 : BitVec 32 := 1#32
  let v329 : BitVec 32 := Scalar.divsi v327 c1_i32_120
  let v330 : BitVec 32 := Scalar.muli v329 c1_i32_120
  let v331 : BitVec 32 := Scalar.addi v325 v330
  let c1_i32_122 : BitVec 32 := 1#32
  let arg12 : BitVec 32 := Scf.iv v331 c1_i32_122 k0_t6
  let v343 : Index := Scalar.indexCast arg12
  let c0_126 : Index := 0#32
  let c0_127 : Index := 0#32
  ![v343.toNat, 0, 0]
def k0_off11 (v233 : BitVec 32) (v234 : BitVec 32) (k0_t6 : Fin (k0_t6_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c0_i32_87 : BitVec 32 := 0#32
  let v253 : BitVec 1 := Scalar.cmpi .sgt v234 c0_i32_87
  let v254 : BitVec 32 := Scalar.extui v253
  let c0_i32_88 : BitVec 32 := 0#32
  let v255 : BitVec 1 := Scalar.cmpi .slt v234 c0_i32_88
  let v256 : BitVec 32 := Scalar.extui v255
  let v257 : BitVec 32 := Scalar.subi v254 v256
  let c160_i32_86 : BitVec 32 := 160#32
  let c0_i32_89 : BitVec 32 := 0#32
  let v258 : BitVec 1 := Scalar.cmpi .sgt c160_i32_86 c0_i32_89
  let v259 : BitVec 32 := Scalar.extui v258
  let c0_i32_90 : BitVec 32 := 0#32
  let v260 : BitVec 1 := Scalar.cmpi .slt c160_i32_86 c0_i32_90
  let v261 : BitVec 32 := Scalar.extui v260
  let v262 : BitVec 32 := Scalar.subi v259 v261
  let v263 : BitVec 1 := Scalar.cmpi .ne v257 v262
  let v264 : BitVec 32 := Scalar.remsi v234 c160_i32_86
  let c0_i32_91 : BitVec 32 := 0#32
  let v265 : BitVec 1 := Scalar.cmpi .ne v264 c0_i32_91
  let v266 : BitVec 1 := Scalar.andi v263 v265
  let v252 : BitVec 32 := Scalar.divsi v234 c160_i32_86
  let c1_i32_92 : BitVec 32 := 1#32
  let v267 : BitVec 32 := Scalar.subi v252 c1_i32_92
  let v268 : BitVec 32 := Scalar.select v266 v267 v252
  let c1_i32_118 : BitVec 32 := 1#32
  let v326 : BitVec 32 := Scalar.addi v268 c1_i32_118
  let v327 : BitVec 32 := Scalar.subi v326 v325
  let c1_i32_120 : BitVec 32 := 1#32
  let v329 : BitVec 32 := Scalar.divsi v327 c1_i32_120
  let v330 : BitVec 32 := Scalar.muli v329 c1_i32_120
  let v331 : BitVec 32 := Scalar.addi v325 v330
  let c1_i32_122 : BitVec 32 := 1#32
  let arg12 : BitVec 32 := Scf.iv v331 c1_i32_122 k0_t6
  let v362 : Index := Scalar.indexCast arg12
  let c0_134 : Index := 0#32
  let c0_135 : Index := 0#32
  ![v362.toNat, 0, 0]
@[reducible] def k0_t7_loop (v156 : BitVec 32) : Scf.Loop 32 :=
  let c1_i32_139 : BitVec 32 := 1#32
  let c0_i32_54 : BitVec 32 := 0#32
  let v158 : BitVec 1 := Scalar.cmpi .sgt v156 c0_i32_54
  let v159 : BitVec 32 := Scalar.extui v158
  let c0_i32_55 : BitVec 32 := 0#32
  let v160 : BitVec 1 := Scalar.cmpi .slt v156 c0_i32_55
  let v161 : BitVec 32 := Scalar.extui v160
  let v162 : BitVec 32 := Scalar.subi v159 v161
  let c32_i32 : BitVec 32 := 32#32
  let c0_i32_56 : BitVec 32 := 0#32
  let v163 : BitVec 1 := Scalar.cmpi .sgt c32_i32 c0_i32_56
  let v164 : BitVec 32 := Scalar.extui v163
  let c0_i32_57 : BitVec 32 := 0#32
  let v165 : BitVec 1 := Scalar.cmpi .slt c32_i32 c0_i32_57
  let v166 : BitVec 32 := Scalar.extui v165
  let v167 : BitVec 32 := Scalar.subi v164 v166
  let v168 : BitVec 1 := Scalar.cmpi .ne v162 v167
  let v169 : BitVec 32 := Scalar.remsi v156 c32_i32
  let c0_i32_58 : BitVec 32 := 0#32
  let v170 : BitVec 1 := Scalar.cmpi .ne v169 c0_i32_58
  let v171 : BitVec 1 := Scalar.andi v168 v170
  let v157 : BitVec 32 := Scalar.divsi v156 c32_i32
  let c1_i32_59 : BitVec 32 := 1#32
  let v172 : BitVec 32 := Scalar.subi v157 c1_i32_59
  let v173 : BitVec 32 := Scalar.select v171 v172 v157
  let c1_i32_60 : BitVec 32 := 1#32
  let v174 : BitVec 32 := Scalar.addi v173 c1_i32_60
  let v373 : BitVec 32 := Scalar.subi v174 c1_i32_139
  let c1_i32_140 : BitVec 32 := 1#32
  let v375 : BitVec 32 := Scalar.divsi v373 c1_i32_140
  let v376 : BitVec 32 := Scalar.muli v375 c1_i32_140
  let v377 : BitVec 32 := Scalar.addi c1_i32_139 v376
  let c1_i32_141 : BitVec 32 := 1#32
  ⟨c1_i32_139, v377, c1_i32_141⟩
def k0_off12 (v233 : BitVec 32) (v234 : BitVec 32) (k0_t6 : Fin (k0_t6_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c0_i32_87 : BitVec 32 := 0#32
  let v253 : BitVec 1 := Scalar.cmpi .sgt v234 c0_i32_87
  let v254 : BitVec 32 := Scalar.extui v253
  let c0_i32_88 : BitVec 32 := 0#32
  let v255 : BitVec 1 := Scalar.cmpi .slt v234 c0_i32_88
  let v256 : BitVec 32 := Scalar.extui v255
  let v257 : BitVec 32 := Scalar.subi v254 v256
  let c160_i32_86 : BitVec 32 := 160#32
  let c0_i32_89 : BitVec 32 := 0#32
  let v258 : BitVec 1 := Scalar.cmpi .sgt c160_i32_86 c0_i32_89
  let v259 : BitVec 32 := Scalar.extui v258
  let c0_i32_90 : BitVec 32 := 0#32
  let v260 : BitVec 1 := Scalar.cmpi .slt c160_i32_86 c0_i32_90
  let v261 : BitVec 32 := Scalar.extui v260
  let v262 : BitVec 32 := Scalar.subi v259 v261
  let v263 : BitVec 1 := Scalar.cmpi .ne v257 v262
  let v264 : BitVec 32 := Scalar.remsi v234 c160_i32_86
  let c0_i32_91 : BitVec 32 := 0#32
  let v265 : BitVec 1 := Scalar.cmpi .ne v264 c0_i32_91
  let v266 : BitVec 1 := Scalar.andi v263 v265
  let v252 : BitVec 32 := Scalar.divsi v234 c160_i32_86
  let c1_i32_92 : BitVec 32 := 1#32
  let v267 : BitVec 32 := Scalar.subi v252 c1_i32_92
  let v268 : BitVec 32 := Scalar.select v266 v267 v252
  let c1_i32_118 : BitVec 32 := 1#32
  let v326 : BitVec 32 := Scalar.addi v268 c1_i32_118
  let v327 : BitVec 32 := Scalar.subi v326 v325
  let c1_i32_120 : BitVec 32 := 1#32
  let v329 : BitVec 32 := Scalar.divsi v327 c1_i32_120
  let v330 : BitVec 32 := Scalar.muli v329 c1_i32_120
  let v331 : BitVec 32 := Scalar.addi v325 v330
  let c1_i32_122 : BitVec 32 := 1#32
  let arg12 : BitVec 32 := Scf.iv v331 c1_i32_122 k0_t6
  let v391 : Index := Scalar.indexCast arg12
  let c0_147 : Index := 0#32
  let c0_148 : Index := 0#32
  ![v391.toNat, 0, 0]
@[reducible] def k0_t8_loop (v156 : BitVec 32) : Scf.Loop 32 :=
  let c1_i32_139 : BitVec 32 := 1#32
  let c0_i32_54 : BitVec 32 := 0#32
  let v158 : BitVec 1 := Scalar.cmpi .sgt v156 c0_i32_54
  let v159 : BitVec 32 := Scalar.extui v158
  let c0_i32_55 : BitVec 32 := 0#32
  let v160 : BitVec 1 := Scalar.cmpi .slt v156 c0_i32_55
  let v161 : BitVec 32 := Scalar.extui v160
  let v162 : BitVec 32 := Scalar.subi v159 v161
  let c32_i32 : BitVec 32 := 32#32
  let c0_i32_56 : BitVec 32 := 0#32
  let v163 : BitVec 1 := Scalar.cmpi .sgt c32_i32 c0_i32_56
  let v164 : BitVec 32 := Scalar.extui v163
  let c0_i32_57 : BitVec 32 := 0#32
  let v165 : BitVec 1 := Scalar.cmpi .slt c32_i32 c0_i32_57
  let v166 : BitVec 32 := Scalar.extui v165
  let v167 : BitVec 32 := Scalar.subi v164 v166
  let v168 : BitVec 1 := Scalar.cmpi .ne v162 v167
  let v169 : BitVec 32 := Scalar.remsi v156 c32_i32
  let c0_i32_58 : BitVec 32 := 0#32
  let v170 : BitVec 1 := Scalar.cmpi .ne v169 c0_i32_58
  let v171 : BitVec 1 := Scalar.andi v168 v170
  let v157 : BitVec 32 := Scalar.divsi v156 c32_i32
  let c1_i32_59 : BitVec 32 := 1#32
  let v172 : BitVec 32 := Scalar.subi v157 c1_i32_59
  let v173 : BitVec 32 := Scalar.select v171 v172 v157
  let c1_i32_60 : BitVec 32 := 1#32
  let v174 : BitVec 32 := Scalar.addi v173 c1_i32_60
  let v373 : BitVec 32 := Scalar.subi v174 c1_i32_139
  let c1_i32_140 : BitVec 32 := 1#32
  let v375 : BitVec 32 := Scalar.divsi v373 c1_i32_140
  let v376 : BitVec 32 := Scalar.muli v375 c1_i32_140
  let v377 : BitVec 32 := Scalar.addi c1_i32_139 v376
  let v374 : BitVec 32 := Scalar.addi c1_i32_139 v373
  let c1_i32_142 : BitVec 32 := 1#32
  ⟨v377, v374, c1_i32_142⟩
def k0_off13 (v233 : BitVec 32) (v234 : BitVec 32) (k0_t6 : Fin (k0_t6_loop v233 v234).trips) : Fin 3 → Nat :=
  let c0_i32_80 : BitVec 32 := 0#32
  let v236 : BitVec 1 := Scalar.cmpi .sgt v233 c0_i32_80
  let v237 : BitVec 32 := Scalar.extui v236
  let c0_i32_81 : BitVec 32 := 0#32
  let v238 : BitVec 1 := Scalar.cmpi .slt v233 c0_i32_81
  let v239 : BitVec 32 := Scalar.extui v238
  let v240 : BitVec 32 := Scalar.subi v237 v239
  let c160_i32 : BitVec 32 := 160#32
  let c0_i32_82 : BitVec 32 := 0#32
  let v241 : BitVec 1 := Scalar.cmpi .sgt c160_i32 c0_i32_82
  let v242 : BitVec 32 := Scalar.extui v241
  let c0_i32_83 : BitVec 32 := 0#32
  let v243 : BitVec 1 := Scalar.cmpi .slt c160_i32 c0_i32_83
  let v244 : BitVec 32 := Scalar.extui v243
  let v245 : BitVec 32 := Scalar.subi v242 v244
  let v246 : BitVec 1 := Scalar.cmpi .ne v240 v245
  let v247 : BitVec 32 := Scalar.remsi v233 c160_i32
  let c0_i32_84 : BitVec 32 := 0#32
  let v248 : BitVec 1 := Scalar.cmpi .ne v247 c0_i32_84
  let v249 : BitVec 1 := Scalar.andi v246 v248
  let v235 : BitVec 32 := Scalar.divsi v233 c160_i32
  let c1_i32_85 : BitVec 32 := 1#32
  let v250 : BitVec 32 := Scalar.subi v235 c1_i32_85
  let v251 : BitVec 32 := Scalar.select v249 v250 v235
  let c248_i32 : BitVec 32 := 248#32
  let v271 : BitVec 32 := Scalar.minsi v251 c248_i32
  let c2_i32_117 : BitVec 32 := 2#32
  let v325 : BitVec 32 := Scalar.addi v271 c2_i32_117
  let c0_i32_87 : BitVec 32 := 0#32
  let v253 : BitVec 1 := Scalar.cmpi .sgt v234 c0_i32_87
  let v254 : BitVec 32 := Scalar.extui v253
  let c0_i32_88 : BitVec 32 := 0#32
  let v255 : BitVec 1 := Scalar.cmpi .slt v234 c0_i32_88
  let v256 : BitVec 32 := Scalar.extui v255
  let v257 : BitVec 32 := Scalar.subi v254 v256
  let c160_i32_86 : BitVec 32 := 160#32
  let c0_i32_89 : BitVec 32 := 0#32
  let v258 : BitVec 1 := Scalar.cmpi .sgt c160_i32_86 c0_i32_89
  let v259 : BitVec 32 := Scalar.extui v258
  let c0_i32_90 : BitVec 32 := 0#32
  let v260 : BitVec 1 := Scalar.cmpi .slt c160_i32_86 c0_i32_90
  let v261 : BitVec 32 := Scalar.extui v260
  let v262 : BitVec 32 := Scalar.subi v259 v261
  let v263 : BitVec 1 := Scalar.cmpi .ne v257 v262
  let v264 : BitVec 32 := Scalar.remsi v234 c160_i32_86
  let c0_i32_91 : BitVec 32 := 0#32
  let v265 : BitVec 1 := Scalar.cmpi .ne v264 c0_i32_91
  let v266 : BitVec 1 := Scalar.andi v263 v265
  let v252 : BitVec 32 := Scalar.divsi v234 c160_i32_86
  let c1_i32_92 : BitVec 32 := 1#32
  let v267 : BitVec 32 := Scalar.subi v252 c1_i32_92
  let v268 : BitVec 32 := Scalar.select v266 v267 v252
  let c1_i32_118 : BitVec 32 := 1#32
  let v326 : BitVec 32 := Scalar.addi v268 c1_i32_118
  let v327 : BitVec 32 := Scalar.subi v326 v325
  let c1_i32_120 : BitVec 32 := 1#32
  let v329 : BitVec 32 := Scalar.divsi v327 c1_i32_120
  let v330 : BitVec 32 := Scalar.muli v329 c1_i32_120
  let v331 : BitVec 32 := Scalar.addi v325 v330
  let c1_i32_122 : BitVec 32 := 1#32
  let arg12 : BitVec 32 := Scf.iv v331 c1_i32_122 k0_t6
  let v391 : Index := Scalar.indexCast arg12
  let c0_147 : Index := 0#32
  let c0_148 : Index := 0#32
  ![v391.toNat, 0, 0]

def k0_chk3 (v156 : BitVec 32) (v233 : BitVec 32) (v234 : BitVec 32) : Prop :=
  ((k0_t3_loop v233 v234).OK) ∧
  (∀ k0_t3 : Fin (k0_t3_loop v233 v234).trips, ∀ a, (k0_off6 v233 v234 k0_t3) a + S1x4x160.size a ≤ S250x4x160.size a) ∧
  (∀ k0_t3 : Fin (k0_t3_loop v233 v234).trips, ∀ a, (k0_off7 v233 v234 k0_t3) a + S1x160x256.size a ≤ S250x160x256.size a) ∧
  (∀ k0_t3 : Fin (k0_t3_loop v233 v234).trips, (k0_t4_loop v156).OK) ∧
  (∀ (k0_t3 : Fin (k0_t3_loop v233 v234).trips) (k0_t4 : Fin (k0_t4_loop v156).trips), ∀ a, (k0_off8 v233 v234 k0_t3) a + S1x160x256.size a ≤ S250x160x256.size a) ∧
  (∀ k0_t3 : Fin (k0_t3_loop v233 v234).trips, (k0_t5_loop v156).OK) ∧
  (∀ (k0_t3 : Fin (k0_t3_loop v233 v234).trips) (k0_t5 : Fin (k0_t5_loop v156).trips), ∀ a, (k0_off9 v233 v234 k0_t3) a + S1x160x256.size a ≤ S250x160x256.size a) ∧
  ((k0_t6_loop v233 v234).OK) ∧
  (∀ k0_t6 : Fin (k0_t6_loop v233 v234).trips, ∀ a, (k0_off10 v233 v234 k0_t6) a + S1x4x160.size a ≤ S250x4x160.size a) ∧
  (∀ k0_t6 : Fin (k0_t6_loop v233 v234).trips, ∀ a, (k0_off11 v233 v234 k0_t6) a + S1x160x256.size a ≤ S250x160x256.size a) ∧
  (∀ k0_t6 : Fin (k0_t6_loop v233 v234).trips, (k0_t7_loop v156).OK) ∧
  (∀ (k0_t6 : Fin (k0_t6_loop v233 v234).trips) (k0_t7 : Fin (k0_t7_loop v156).trips), ∀ a, (k0_off12 v233 v234 k0_t6) a + S1x160x256.size a ≤ S250x160x256.size a) ∧
  (∀ k0_t6 : Fin (k0_t6_loop v233 v234).trips, (k0_t8_loop v156).OK) ∧
  (∀ (k0_t6 : Fin (k0_t6_loop v233 v234).trips) (k0_t8 : Fin (k0_t8_loop v156).trips), ∀ a, (k0_off13 v233 v234 k0_t6) a + S1x160x256.size a ≤ S250x160x256.size a)
theorem k0_t3_ok : ∀ (v156 : BitVec 32) (v233 : BitVec 32) (v234 : BitVec 32) (k0_hw3 : k0_chk3 v156 v233 v234), (k0_t3_loop v233 v234).OK := fun v156 v233 v234 k0_hw3 => k0_hw3.1
theorem k0_off6_inb : ∀ (v156 : BitVec 32) (v233 : BitVec 32) (v234 : BitVec 32) (k0_hw3 : k0_chk3 v156 v233 v234) (k0_t3 : Fin (k0_t3_loop v233 v234).trips), ∀ a, (k0_off6 v233 v234 k0_t3) a + S1x4x160.size a ≤ S250x4x160.size a := fun v156 v233 v234 k0_hw3 k0_t3 => k0_hw3.2.1 k0_t3
theorem k0_off7_inb : ∀ (v156 : BitVec 32) (v233 : BitVec 32) (v234 : BitVec 32) (k0_hw3 : k0_chk3 v156 v233 v234) (k0_t3 : Fin (k0_t3_loop v233 v234).trips), ∀ a, (k0_off7 v233 v234 k0_t3) a + S1x160x256.size a ≤ S250x160x256.size a := fun v156 v233 v234 k0_hw3 k0_t3 => k0_hw3.2.2.1 k0_t3
theorem k0_t4_ok : ∀ (v156 : BitVec 32) (v233 : BitVec 32) (v234 : BitVec 32) (k0_hw3 : k0_chk3 v156 v233 v234) (k0_t3 : Fin (k0_t3_loop v233 v234).trips), (k0_t4_loop v156).OK := fun v156 v233 v234 k0_hw3 k0_t3 => k0_hw3.2.2.2.1 k0_t3
theorem k0_off8_inb : ∀ (v156 : BitVec 32) (v233 : BitVec 32) (v234 : BitVec 32) (k0_hw3 : k0_chk3 v156 v233 v234) (k0_t3 : Fin (k0_t3_loop v233 v234).trips) (k0_t4 : Fin (k0_t4_loop v156).trips), ∀ a, (k0_off8 v233 v234 k0_t3) a + S1x160x256.size a ≤ S250x160x256.size a := fun v156 v233 v234 k0_hw3 k0_t3 k0_t4 => k0_hw3.2.2.2.2.1 k0_t3 k0_t4
theorem k0_t5_ok : ∀ (v156 : BitVec 32) (v233 : BitVec 32) (v234 : BitVec 32) (k0_hw3 : k0_chk3 v156 v233 v234) (k0_t3 : Fin (k0_t3_loop v233 v234).trips), (k0_t5_loop v156).OK := fun v156 v233 v234 k0_hw3 k0_t3 => k0_hw3.2.2.2.2.2.1 k0_t3
theorem k0_off9_inb : ∀ (v156 : BitVec 32) (v233 : BitVec 32) (v234 : BitVec 32) (k0_hw3 : k0_chk3 v156 v233 v234) (k0_t3 : Fin (k0_t3_loop v233 v234).trips) (k0_t5 : Fin (k0_t5_loop v156).trips), ∀ a, (k0_off9 v233 v234 k0_t3) a + S1x160x256.size a ≤ S250x160x256.size a := fun v156 v233 v234 k0_hw3 k0_t3 k0_t5 => k0_hw3.2.2.2.2.2.2.1 k0_t3 k0_t5
theorem k0_t6_ok : ∀ (v156 : BitVec 32) (v233 : BitVec 32) (v234 : BitVec 32) (k0_hw3 : k0_chk3 v156 v233 v234), (k0_t6_loop v233 v234).OK := fun v156 v233 v234 k0_hw3 => k0_hw3.2.2.2.2.2.2.2.1
theorem k0_off10_inb : ∀ (v156 : BitVec 32) (v233 : BitVec 32) (v234 : BitVec 32) (k0_hw3 : k0_chk3 v156 v233 v234) (k0_t6 : Fin (k0_t6_loop v233 v234).trips), ∀ a, (k0_off10 v233 v234 k0_t6) a + S1x4x160.size a ≤ S250x4x160.size a := fun v156 v233 v234 k0_hw3 k0_t6 => k0_hw3.2.2.2.2.2.2.2.2.1 k0_t6
theorem k0_off11_inb : ∀ (v156 : BitVec 32) (v233 : BitVec 32) (v234 : BitVec 32) (k0_hw3 : k0_chk3 v156 v233 v234) (k0_t6 : Fin (k0_t6_loop v233 v234).trips), ∀ a, (k0_off11 v233 v234 k0_t6) a + S1x160x256.size a ≤ S250x160x256.size a := fun v156 v233 v234 k0_hw3 k0_t6 => k0_hw3.2.2.2.2.2.2.2.2.2.1 k0_t6
theorem k0_t7_ok : ∀ (v156 : BitVec 32) (v233 : BitVec 32) (v234 : BitVec 32) (k0_hw3 : k0_chk3 v156 v233 v234) (k0_t6 : Fin (k0_t6_loop v233 v234).trips), (k0_t7_loop v156).OK := fun v156 v233 v234 k0_hw3 k0_t6 => k0_hw3.2.2.2.2.2.2.2.2.2.2.1 k0_t6
theorem k0_off12_inb : ∀ (v156 : BitVec 32) (v233 : BitVec 32) (v234 : BitVec 32) (k0_hw3 : k0_chk3 v156 v233 v234) (k0_t6 : Fin (k0_t6_loop v233 v234).trips) (k0_t7 : Fin (k0_t7_loop v156).trips), ∀ a, (k0_off12 v233 v234 k0_t6) a + S1x160x256.size a ≤ S250x160x256.size a := fun v156 v233 v234 k0_hw3 k0_t6 k0_t7 => k0_hw3.2.2.2.2.2.2.2.2.2.2.2.1 k0_t6 k0_t7
theorem k0_t8_ok : ∀ (v156 : BitVec 32) (v233 : BitVec 32) (v234 : BitVec 32) (k0_hw3 : k0_chk3 v156 v233 v234) (k0_t6 : Fin (k0_t6_loop v233 v234).trips), (k0_t8_loop v156).OK := fun v156 v233 v234 k0_hw3 k0_t6 => k0_hw3.2.2.2.2.2.2.2.2.2.2.2.2.1 k0_t6
theorem k0_off13_inb : ∀ (v156 : BitVec 32) (v233 : BitVec 32) (v234 : BitVec 32) (k0_hw3 : k0_chk3 v156 v233 v234) (k0_t6 : Fin (k0_t6_loop v233 v234).trips) (k0_t8 : Fin (k0_t8_loop v156).trips), ∀ a, (k0_off13 v233 v234 k0_t6) a + S1x160x256.size a ≤ S250x160x256.size a := fun v156 v233 v234 k0_hw3 k0_t6 k0_t8 => k0_hw3.2.2.2.2.2.2.2.2.2.2.2.2.2 k0_t6 k0_t8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .smem S1x1x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1600 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S250x160x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S250x4x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "empty_below" => some ⊥
  | "empty_mark" => some ⊥
  | _ => none
-- ==== ReferenceIdeal.lean ====
abbrev S320000x128 : Shape := ⟨2, ![320000, 128]⟩
abbrev S320000x3 : Shape := ⟨2, ![320000, 3]⟩
abbrev S320000 : Shape := ⟨1, ![320000]⟩
abbrev S128 : Shape := ⟨1, ![128]⟩
abbrev S128x256 : Shape := ⟨2, ![128, 256]⟩
abbrev S256 : Shape := ⟨1, ![256]⟩
abbrev S_ : Shape := ⟨0, ![]⟩
abbrev S320000x1 : Shape := ⟨2, ![320000, 1]⟩
abbrev S1x128 : Shape := ⟨2, ![1, 128]⟩
abbrev S320000x256 : Shape := ⟨2, ![320000, 256]⟩
abbrev S1x256 : Shape := ⟨2, ![1, 256]⟩
abbrev S1x320000 : Shape := ⟨2, ![1, 320000]⟩
abbrev S40000 : Shape := ⟨1, ![40000]⟩
abbrev S40000x1 : Shape := ⟨2, ![40000, 1]⟩
abbrev S40000x320000 : Shape := ⟨2, ![40000, 320000]⟩
abbrev S40000x320000x1 : Shape := ⟨3, ![40000, 320000, 1]⟩
abbrev S1x320000x256 : Shape := ⟨3, ![1, 320000, 256]⟩
abbrev S40000x320000x256 : Shape := ⟨3, ![40000, 320000, 256]⟩
abbrev S40000x256 : Shape := ⟨2, ![40000, 256]⟩
abbrev S40000x3 : Shape := ⟨2, ![40000, 3]⟩

abbrev nBuf : Space → Nat
  | .hbm => 95
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S_, .f32⟩
  | .hbm, ⟨8, _⟩ => ⟨S320000, .f32⟩
  | .hbm, ⟨9, _⟩ => ⟨S320000x1, .f32⟩
  | .hbm, ⟨10, _⟩ => ⟨S_, .f32⟩
  | .hbm, ⟨11, _⟩ => ⟨S320000x1, .f32⟩
  | .hbm, ⟨12, _⟩ => ⟨S320000x1, .f32⟩
  | .hbm, ⟨13, _⟩ => ⟨S_, .i32⟩
  | .hbm, ⟨14, _⟩ => ⟨S_, .f32⟩
  | .hbm, ⟨15, _⟩ => ⟨S320000, .f32⟩
  | .hbm, ⟨16, _⟩ => ⟨S320000x1, .f32⟩
  | .hbm, ⟨17, _⟩ => ⟨S_, .f32⟩
  | .hbm, ⟨18, _⟩ => ⟨S320000x1, .f32⟩
  | .hbm, ⟨19, _⟩ => ⟨S320000x1, .f32⟩
  | .hbm, ⟨20, _⟩ => ⟨S320000x128, .f32⟩
  | .hbm, ⟨21, _⟩ => ⟨S320000x128, .f32⟩
  | .hbm, ⟨22, _⟩ => ⟨S320000x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S320000, .f32⟩
  | .hbm, ⟨28, _⟩ => ⟨S320000x1, .f32⟩
  | .hbm, ⟨29, _⟩ => ⟨S320000x1, .f32⟩
  | .hbm, ⟨30, _⟩ => ⟨S320000x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S320000x1, .f32⟩
  | .hbm, ⟨36, _⟩ => ⟨S320000x1, .f32⟩
  | .hbm, ⟨37, _⟩ => ⟨S320000x128, .f32⟩
  | .hbm, ⟨38, _⟩ => ⟨S320000x128, .f32⟩
  | .hbm, ⟨39, _⟩ => ⟨S_, .f32⟩
  | .hbm, ⟨40, _⟩ => ⟨S320000x1, .f32⟩
  | .hbm, ⟨41, _⟩ => ⟨S320000x1, .f32⟩
  | .hbm, ⟨42, _⟩ => ⟨S320000x1, .f32⟩
  | .hbm, ⟨43, _⟩ => ⟨S320000x128, .f32⟩
  | .hbm, ⟨44, _⟩ => ⟨S320000x128, .f32⟩
  | .hbm, ⟨45, _⟩ => ⟨S1x128, .f32⟩
  | .hbm, ⟨46, _⟩ => ⟨S320000x128, .f32⟩
  | .hbm, ⟨47, _⟩ => ⟨S320000x128, .f32⟩
  | .hbm, ⟨48, _⟩ => ⟨S1x128, .f32⟩
  | .hbm, ⟨49, _⟩ => ⟨S320000x128, .f32⟩
  | .hbm, ⟨50, _⟩ => ⟨S320000x128, .f32⟩
  | .hbm, ⟨51, _⟩ => ⟨S320000x256, .f32⟩
  | .hbm, ⟨52, _⟩ => ⟨S1x256, .f32⟩
  | .hbm, ⟨53, _⟩ => ⟨S320000x256, .f32⟩
  | .hbm, ⟨54, _⟩ => ⟨S320000x256, .f32⟩
  | .hbm, ⟨55, _⟩ => ⟨S1x320000, .i32⟩
  | .hbm, ⟨56, _⟩ => ⟨S40000, .i32⟩
  | .hbm, ⟨57, _⟩ => ⟨S40000x1, .i32⟩
  | .hbm, ⟨58, _⟩ => ⟨S40000x320000, .i32⟩
  | .hbm, ⟨59, _⟩ => ⟨S40000x320000, .i32⟩
  | .hbm, ⟨60, _⟩ => ⟨S40000x320000, .i1⟩
  | .hbm, ⟨61, _⟩ => ⟨S40000x320000x1, .i1⟩
  | .hbm, ⟨62, _⟩ => ⟨S1x320000x256, .f32⟩
  | .hbm, ⟨63, _⟩ => ⟨S_, .f32⟩
  | .hbm, ⟨64, _⟩ => ⟨S_, .f32⟩
  | .hbm, ⟨65, _⟩ => ⟨S40000x320000x256, .i1⟩
  | .hbm, ⟨66, _⟩ => ⟨S40000x320000x256, .f32⟩
  | .hbm, ⟨67, _⟩ => ⟨S40000x320000x256, .f32⟩
  | .hbm, ⟨68, _⟩ => ⟨S40000x320000x256, .f32⟩
  | .hbm, ⟨69, _⟩ => ⟨S_, .f32⟩
  | .hbm, ⟨70, _⟩ => ⟨S40000x256, .f32⟩
  | .hbm, ⟨71, _⟩ => ⟨S_, .f32⟩
  | .hbm, ⟨72, _⟩ => ⟨S320000x1, .f32⟩
  | .hbm, ⟨73, _⟩ => ⟨S_, .f32⟩
  | .hbm, ⟨74, _⟩ => ⟨S40000x1, .f32⟩
  | .hbm, ⟨75, _⟩ => ⟨S320000x1, .i32⟩
  | .hbm, ⟨76, _⟩ => ⟨S40000x1, .f32⟩
  | .hbm, ⟨77, _⟩ => ⟨S_, .f32⟩
  | .hbm, ⟨78, _⟩ => ⟨S40000x1, .f32⟩
  | .hbm, ⟨79, _⟩ => ⟨S40000x1, .i1⟩
  | .hbm, ⟨80, _⟩ => ⟨S_, .f32⟩
  | .hbm, ⟨81, _⟩ => ⟨S_, .f32⟩
  | .hbm, ⟨82, _⟩ => ⟨S40000x256, .i1⟩
  | .hbm, ⟨83, _⟩ => ⟨S40000x256, .f32⟩
  | .hbm, ⟨84, _⟩ => ⟨S40000x256, .f32⟩
  | .hbm, ⟨85, _⟩ => ⟨S_, .f32⟩
  | .hbm, ⟨86, _⟩ => ⟨S40000x3, .f32⟩
  | .hbm, ⟨87, _⟩ => ⟨S320000x1, .i32⟩
  | .hbm, ⟨88, _⟩ => ⟨S40000x3, .f32⟩
  | .hbm, ⟨89, _⟩ => ⟨S_, .f32⟩
  | .hbm, ⟨90, _⟩ => ⟨S_, .f32⟩
  | .hbm, ⟨91, _⟩ => ⟨S40000x1, .f32⟩
  | .hbm, ⟨92, _⟩ => ⟨S40000x1, .f32⟩
  | .hbm, ⟨93, _⟩ => ⟨S40000x3, .f32⟩
  | .hbm, ⟨94, _⟩ => ⟨S40000x3, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_2 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_v30 : Ref sig .tc := ⟨.hbm, 68, rfl⟩
abbrev main_cst_3 : Ref sig .tc := ⟨.hbm, 69, rfl⟩
abbrev main_v31 : Ref sig .tc := ⟨.hbm, 70, rfl⟩
abbrev main_cst_4 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_6 : Ref sig .tc := ⟨.hbm, 77, rfl⟩
abbrev main_v36 : Ref sig .tc := ⟨.hbm, 78, rfl⟩
abbrev main_v37 : Ref sig .tc := ⟨.hbm, 79, rfl⟩
abbrev main_cst_7 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v38 : Ref sig .tc := ⟨.hbm, 84, rfl⟩
abbrev main_cst_8 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_9 : Ref sig .tc := ⟨.hbm, 89, rfl⟩
abbrev main_call3_v0 : Ref sig .tc := ⟨.hbm, 90, rfl⟩
abbrev main_call3_v1 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩

abbrev nD : Nat := 1
abbrev τ : Topo := Topo.v7x

variable {F : FTy → Type} [FloatOps F]
-- ==== Proof.Word.lean ====
module

public import Idealize.ShloMosaic.Lib.Affine
public import Idealize.ShloMosaic.Lib.LoopRemainder

@[expose] public section

set_option maxRecDepth 16384

/-! Words: the floor of a quotient as the kernel computes it, and loops by steps of one. -/

namespace Cert.Proof

open Idealize.ShloMosaic

/-- The floor of the quotient of `v` by `d`: the quotient rounded towards zero, less one when the signs differ and it is not exact. -/
def floorDiv (d v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt d 0#32)) (Scalar.extui (Scalar.cmpi .slt d 0#32))))
      (Scalar.cmpi .ne (Scalar.remsi v d) 0#32))
    (Scalar.subi (Scalar.divsi v d) 1#32) (Scalar.divsi v d)

/-- Of a word that is not negative it is the quotient. -/
theorem floorDiv_isInt (d v : BitVec 32) (hd : 0 < d.toInt) (hv : 0 ≤ v.toInt) :
    Affine.IsInt (floorDiv d v) (v.toInt / d.toInt) := by
  have z : Affine.IsInt 0#32 0 := Affine.ofNat 0 ⟨rfl, by decide⟩
  have o : Affine.IsInt 1#32 1 := Affine.ofNat 1 ⟨rfl, by decide⟩
  have q : Affine.IsInt (Scalar.divsi v d) (v.toInt / d.toInt) := Affine.divsi (Affine.word v) (Affine.word d) ⟨rfl, hv, hd⟩
  have r : Affine.IsInt (Scalar.remsi v d) (v.toInt % d.toInt) := Affine.remsi (Affine.word v) (Affine.word d) ⟨rfl, hv, hd⟩
  have hq := Affine.word_range v
  have hq' : 0 ≤ v.toInt / d.toInt := Int.ediv_nonneg hv hd.le
  have hq'' : v.toInt / d.toInt ≤ v.toInt := Int.ediv_le_self _ hv
  have q' : Affine.IsInt (Scalar.subi (Scalar.divsi v d) 1#32) (v.toInt / d.toInt - 1) :=
    Affine.subi q o ⟨rfl, by omega⟩
  have sd : Affine.IsInt (Scalar.subi (Scalar.extui (Scalar.cmpi .sgt d 0#32)) (Scalar.extui (Scalar.cmpi .slt d 0#32))) 1 :=
    Affine.subi (Affine.extui_holds (Affine.sgt_holds (Affine.word d) z hd) rfl)
      (Affine.extui_fails (Affine.slt_fails (Affine.word d) z (by omega)) rfl) (by decide)
  refine Affine.select_fails ?_ q' q rfl
  rcases hv.lt_or_eq with hp | hp
  · refine Affine.andi_fails_left (Affine.ne_fails (ea := 1) ?_ sd rfl) trivial
    exact Affine.subi (Affine.extui_holds (Affine.sgt_holds (Affine.word v) z hp) rfl)
      (Affine.extui_fails (Affine.slt_fails (Affine.word v) z (by omega)) rfl) (by decide)
  · refine Affine.andi_fails_right trivial (Affine.ne_fails r z ?_)
    rw [← hp]; exact Int.zero_emod _

/-- A loop by steps of one never runs past the greatest word. -/
theorem ok_one (a b : BitVec 32) : Scf.OK a b 1#32 := by
  have ha := Affine.word_range a
  have hb := Affine.word_range b
  exact Affine.ok (Affine.word _) (Affine.word _) (Affine.ofNat 1 ⟨rfl, by decide⟩) ⟨by decide, by omega⟩

/-- A word is a segment number. -/
abbrev InRange (v : BitVec 32) : Prop := 0 ≤ v.toInt ∧ v.toInt ≤ 39999

end Cert.Proof
-- ==== Proof.Pre.lean ====
/- What the two preconditions say of the arguments. -/
module

public import proofs.«01_k».proof.Defs
public import proofs.«01_k».proof.Proof.Word
public import Idealize.ShloMosaic.Lib.Pointwise
public import Idealize.ShloMosaic.PureOps.Ideal.Laws

@[expose] public section

noncomputable section

namespace Cert.Proof

open Idealize.ShloMosaic

instance rangeFacts : Cert.Pre_ids_in_range.Facts where
  bcast_S_S320000 := by decide

instance sortedFacts : Cert.Pre_ids_sorted_weights_finite.Facts where
  bcast_S_S320000 := by decide
  slices_S320000_S319999_0 := by decide
  slices_S320000_S319999_1 := by decide
  bcast_S_S128 := by decide
  bcast_S_S128x256 := by decide
  bcast_S_S256 := by decide

theorem andi_one (p q : Bool) : IntOp.andi (BitVec.ofBool p) (BitVec.ofBool q) = 1#1 ↔ p = true ∧ q = true := by
  simp only [IntOp.andi]; decide +revert

theorem inRange_of (v : BitVec 32) (h : IntOp.andi (IntOp.cmpi .sge v 0#32) (IntOp.cmpi .slt v 40000#32) = 1#1) : InRange v := by
  simp only [IntOp.cmpi, andi_one, BitVec.sle_eq_decide, BitVec.slt_eq_decide, decide_eq_true_eq] at h
  obtain ⟨h₁, h₂⟩ := h
  rw [show (40000#32 : BitVec 32).toInt = 40000 by decide] at h₂
  rw [show (0#32 : BitVec 32).toInt = 0 by decide] at h₁
  exact ⟨h₁, by omega⟩

section
variable {F : FTy → Type} [FloatOps F]

theorem inRange_of_range (x0 : FVec F Pre_ids_in_range.S320000x128 .f32) (x1 : FVec F Pre_ids_in_range.S320000x3 .f32)
    (x2 : IVec Pre_ids_in_range.S320000 32) (x3 x4 : FVec F Pre_ids_in_range.S128 .f32)
    (x5 : FVec F Pre_ids_in_range.S128x256 .f32) (x6 : FVec F Pre_ids_in_range.S256 .f32)
    (h : Pre_ids_in_range.fn (F := F) x0 x1 x2 x3 x4 x5 x6 = fun _ => 1#1) (j) : InRange (x2 j) := by
  have e := congrFun h j
  simp only [Pre_ids_in_range.fn, andi, cmpi, broadcastInDim, constantI] at e
  exact inRange_of _ e

end

section
open Pre_ids_sorted_weights_finite

variable (x0 : FVec Ideal S320000x128 .f32) (x1 : FVec Ideal S320000x3 .f32) (x2 : IVec S320000 32) (x3 x4 : FVec Ideal S128 .f32)
  (x5 : FVec Ideal S128x256 .f32) (x6 : FVec Ideal S256 .f32)

theorem inRange_of_sorted (h : (fn (F := Ideal) x0 x1 x2 x3 x4 x5 x6).1 = fun _ => 1#1) (j) : InRange (x2 j) := by
  have e := congrFun h j
  simp only [fn, fn_part1, andi, cmpi, broadcastInDim, constantI] at e
  exact inRange_of _ e

/-- The segments come in order. -/
theorem sorted_step (h : (fn (F := Ideal) x0 x1 x2 x3 x4 x5 x6).2.1 = fun _ => 1#1) (j : Fin 319999) :
    (x2 (ix1 ⟨j.val, by omega⟩)).toInt ≤ (x2 (ix1 ⟨j.val + 1, by omega⟩)).toInt := by
  have e := congrFun h (ix1 j)
  pointwise [fn, fn_part1] at e
  simp only [IntOp.cmpi, BitVec.sle_eq_decide] at e
  have e' : (x2 (ix1 ⟨j.val, by omega⟩)).toInt ≤ (x2 (ix1 ⟨1 + j.val, by omega⟩)).toInt := by
    by_contra hc
    rw [decide_eq_false hc] at e
    exact absurd e (by decide)
  simpa only [Nat.add_comm] using e'

theorem ofBits_inf : Ideal.ofBits .f32 0x7F800000#32 = ⊤ := by simp [Ideal.ofBits, Ideal.ieee]

/-- What is less than infinity in absolute value is a real number. -/
theorem real_of (a : EReal) (h : Ideal.cmp .olt (max a (-a)) (Ideal.ofBits .f32 0x7F800000#32) = 1#1) : ∃ r : ℝ, a = r := by
  rw [ofBits_inf] at h
  have h' : max a (-a) < ⊤ := by
    by_contra hc
    simp [Ideal.cmp, hc] at h
  induction a using EReal.rec with
  | bot => simp at h'
  | coe r => exact ⟨r, rfl⟩
  | top => simp at h'

theorem gamma_real (h : (fn (F := Ideal) x0 x1 x2 x3 x4 x5 x6).2.2.1 = fun _ => 1#1) (j) : ∃ r : ℝ, x3 j = r := by
  have e := congrFun h j
  simp only [fn, fn_part1, cmpf, Host.absf, broadcastInDim, constant] at e
  exact real_of _ e
theorem beta_real (h : (fn (F := Ideal) x0 x1 x2 x3 x4 x5 x6).2.2.2.1 = fun _ => 1#1) (j) : ∃ r : ℝ, x4 j = r := by
  have e := congrFun h j
  simp only [fn, fn_part1, cmpf, Host.absf, broadcastInDim, constant] at e
  exact real_of _ e
theorem weight_real (h : (fn (F := Ideal) x0 x1 x2 x3 x4 x5 x6).2.2.2.2.1 = fun _ => 1#1) (j) : ∃ r : ℝ, x5 j = r := by
  have e := congrFun h j
  simp only [fn, fn_part1, cmpf, Host.absf, broadcastInDim, constant] at e
  exact real_of _ e
theorem bias_real (h : (fn (F := Ideal) x0 x1 x2 x3 x4 x5 x6).2.2.2.2.2 = fun _ => 1#1) (j) : ∃ r : ℝ, x6 j = r := by
  have e := congrFun h j
  simp only [fn, fn_part1, cmpf, Host.absf, broadcastInDim, constant] at e
  exact real_of _ e

end

end Cert.Proof
-- ==== Proof.Iter.lean ====
/- A step repeated: the value after `k` of `n` numbered steps. -/
module

public import Mathlib.Data.Fin.Basic

@[expose] public section

namespace Cert.Proof

/-- The value after the first `k` steps, from the value `a`. A step number past the last one changes nothing. -/
def iter {α : Type} {n : ℕ} (step : Fin n → α → α) (a : α) : ℕ → α
  | 0 => a
  | k + 1 => if h : k < n then step ⟨k, h⟩ (iter step a k) else iter step a k

theorem iter_zero {α : Type} {n : ℕ} (step : Fin n → α → α) (a : α) : iter step a 0 = a := rfl

/-- One more step. -/
theorem iter_succ {α : Type} {n : ℕ} (step : Fin n → α → α) (a : α) (k : Fin n) :
    iter step a (k.val + 1) = step k (iter step a k.val) := by
  show (if h : k.val < n then step ⟨k.val, h⟩ (iter step a k.val) else iter step a k.val) = _
  rw [dif_pos k.isLt]

/-- What holds of the first value and survives each step holds after `k` steps, when the property may speak of the step number. -/
theorem iter_induction {α : Type} {n : ℕ} (step : Fin n → α → α) (a : α) (P : ℕ → α → Prop) (h0 : P 0 a)
    (hs : ∀ (k : Fin n) (x : α), P k.val x → P (k.val + 1) (step k x)) : ∀ k, k ≤ n → P k (iter step a k)
  | 0, _ => h0
  | k + 1, hk => by
    have := iter_succ step a ⟨k, hk⟩
    rw [show iter step a (k + 1) = _ from this]
    exact hs ⟨k, hk⟩ _ (iter_induction step a P h0 hs k (Nat.le_of_succ_le hk))

end Cert.Proof
-- ==== Proof.KI.Inner.lean ====
/- The innermost loops of the kernel: one phase after another. -/
module

public import proofs.«01_k».proof.Proof.Iter
public import proofs.«01_k».proof.Proof.Gen.KernelIdeal.Skeleton
public import proofs.«01_k».proof.Proof.Gen.KernelIdeal.Launch
public import Idealize.ShloMosaic.Lib.Tactic
public import Idealize.ShloMosaic.Lib.VecWindow
public import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- One phase of the pair of tiles: the two tiles' running maxima joined with the maxima of the rows at that place. -/
def stepT1 (v152 : IVec S1x1600 32) (v156 : BitVec 32) (v230 : FVec F S1600x256 .bf16) (v278 : FVec F S320x1600 .f32) (v279 : FVec F S4x320 .f32)
    (v233 : Elt F .i32) (hw1 : k0_chk1 v156 v233) (k : Fin (k0_t1_loop v156).trips) (f : Vec F S250x160x256 .f32) : Vec F S250x160x256 .f32 :=
  VecWindow.put f (k0_off4 v233) S2x160x256.size
    (k0_pay35 v152 v156 v230 v278 v279 k (VecWindow.window f (k0_off4 v233) S2x160x256.size (k0_off4_inb v156 v233 hw1 k)))

/-- One later phase of a further tile. -/
def stepT4 (v152 : IVec S1x1600 32) (v156 : BitVec 32) (v230 : FVec F S1600x256 .bf16) (v233 v234 : Elt F .i32) (hw3 : k0_chk3 v156 v233 v234)
    (j : Fin (k0_t3_loop v233 v234).trips) (sel : FVec F S160x1600 .f32) (cnt : FVec F S160x1 .f32) (k : Fin (k0_t4_loop v156).trips)
    (f : Vec F S250x160x256 .f32) : Vec F S250x160x256 .f32 :=
  VecWindow.put f (k0_off8 v233 v234 j) S1x160x256.size
    (k0_pay37 v152 v156 v230 sel cnt 1#32 k (VecWindow.window f (k0_off8 v233 v234 j) S1x160x256.size (k0_off8_inb v156 v233 v234 hw3 j k)))

/-- One further tile's sums. -/
def stepT3g (v39 : IVec S1x1600 32) (v156 : BitVec 32) (v232 : FVec F S4x1600 .f32) (v233 v234 : Elt F .i32) (hw3 : k0_chk3 v156 v233 v234)
    (v269 : IVec S160x1600 32) (v325 : BitVec 32) (j : Fin (k0_t3_loop v233 v234).trips) (g : Vec F S250x4x160 .f32) : Vec F S250x4x160 .f32 :=
  VecWindow.put g (k0_off6 v233 v234 j) S1x4x160.size
    (k0_pay5 v39 v232 v233 v234 v269 v325 1#32 j (VecWindow.window g (k0_off6 v233 v234 j) S1x4x160.size (k0_off6_inb v156 v233 v234 hw3 j)))

/-- One further tile's maxima: the first phase, then the later ones. -/
def stepT3f (v39 v152 : IVec S1x1600 32) (v156 : BitVec 32) (v230 : FVec F S1600x256 .bf16) (v232 : FVec F S4x1600 .f32) (v233 v234 : Elt F .i32)
    (hw3 : k0_chk3 v156 v233 v234) (v269 : IVec S160x1600 32) (v325 : BitVec 32) (j : Fin (k0_t3_loop v233 v234).trips)
    (f : Vec F S250x160x256 .f32) : Vec F S250x160x256 .f32 :=
  iter (stepT4 v152 v156 v230 v233 v234 hw3 j (k0_pay3 v39 v233 v234 v269 v325 1#32 j) (k0_pay6 v39 v232 v233 v234 v269 v325 1#32 j))
    (VecWindow.put f (k0_off7 v233 v234 j) S1x160x256.size
      (k0_pay7 v39 v152 v230 v232 v233 v234 v269 v325 1#32 j
        (VecWindow.window f (k0_off7 v233 v234 j) S1x160x256.size (k0_off7_inb v156 v233 v234 hw3 j))))
    (k0_t4_loop v156).trips

variable (c : Dev nD) (E : Set ℕ) (i : grid0.Coords)
  (arg1 : Memref sig .tc .smem S1x1x2 .i32) (harg1 : arg1.IsWhole)
  (arg2 : Memref sig .tc .vmem S1600x128 .f32) (harg2 : arg2.IsWhole)
  (arg3 : Memref sig .tc .vmem S1x4x1600 .f32) (harg3 : arg3.IsWhole)
  (arg4 : Memref sig .tc .vmem S1600x1 .i32) (harg4 : arg4.IsWhole)
  (arg5 : Memref sig .tc .vmem S1x1x1600 .i32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S128x256 .bf16) (harg8 : arg8.IsWhole)
  (arg9 : Memref sig .tc .vmem S1x256 .f32) (harg9 : arg9.IsWhole)
  (arg10 : Memref sig .tc .vmem S250x160x256 .f32) (harg10 : arg10.IsWhole)
  (arg11 : Memref sig .tc .vmem S250x4x160 .f32) (harg11 : arg11.IsWhole)

/-- Held at contents that read `X`, a memref holds `X`. -/
theorem owns_of_read {sp : Space} {s : Shape} {e : EltTy} (m : Memref sig .tc sp s e) (g : Buf (Elt F) (m.view.loc (c : Thread nD τ)))
    (q : PosShare TreeShare) (X : s.Idx → Elt F e) (h : m.view.read (Elt F) g = X) :
    (m.view.loc (c : Thread nD τ) ↦[m.view.set]{q} g : sProp 𝕄) ⊢ owns (c : Thread nD τ) m q X := by
  unfold owns
  iintro H
  iexists g
  isplitr
  · ipureintro; exact h
  iexact H

theorem t1_trip (v39 : IVec S1x1600 32) (v152 : IVec S1x1600 32) (v156 : BitVec 32) (k0_hw2 : k0_chk2 v156) (v174 : BitVec 32) (v230 : FVec F S1600x256 .bf16) (v232 : FVec F S4x1600 .f32) (v233 : Elt F .i32) (k0_hw1 : k0_chk1 v156 v233) (v234 : Elt F .i32) (k0_hw3 : k0_chk3 v156 v233 v234)
  (v268 : BitVec 32) (v269 : IVec S160x1600 32) (v271 : BitVec 32) (v278 : FVec F S320x1600 .f32) (v279 : FVec F S4x320 .f32) (v294 : FVec F S1x4x160 .f32)
    (k : Fin (k0_t1_loop v156).trips) (u : Unit) (f : Vec F S250x160x256 .f32) :
    (owns (c : Thread nD τ) arg10 fullShare f : sProp 𝕄) ⊢
      wp frame (wpE (defs₀ (F := F)) 𝒱₀ (c : Thread nD τ) none) E (k0_t1_body i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 k u)
        (fun _ => owns (c : Thread nD τ) arg10 fullShare (stepT1 v152 v156 v230 v278 v279 v233 k0_hw1 k f)) := by
  unfold owns
  iintro ⟨%f0, %hf0, H⟩
  obtain rfl := hf0
  sl_unfold [k0_t1_body]
  sl_exec!
  sl_step
  iexists _; isplitr; swap; · iexact H
  ipureintro
  rw [View.read_writes_cons_put arg10.view f0 _ _ _ rfl, View.readAt_unit arg10.view f0 _ rfl (k0_off4_inb v156 v233 k0_hw1 k)]
  rfl

theorem t4_trip (v39 : IVec S1x1600 32) (v152 : IVec S1x1600 32) (v156 : BitVec 32) (k0_hw2 : k0_chk2 v156) (v174 : BitVec 32) (v230 : FVec F S1600x256 .bf16) (v232 : FVec F S4x1600 .f32) (v233 : Elt F .i32) (k0_hw1 : k0_chk1 v156 v233) (v234 : Elt F .i32) (k0_hw3 : k0_chk3 v156 v233 v234)
  (v268 : BitVec 32) (v269 : IVec S160x1600 32) (v271 : BitVec 32) (v278 : FVec F S320x1600 .f32) (v279 : FVec F S4x320 .f32) (v294 : FVec F S1x4x160 .f32)
    (j : Fin (k0_t3_loop v233 v234).trips) (sel : FVec F S160x1600 .f32) (cnt : FVec F S160x1 .f32)
    (k : Fin (k0_t4_loop v156).trips) (u : Unit) (f : Vec F S250x160x256 .f32) :
    (owns (c : Thread nD τ) arg10 fullShare f : sProp 𝕄) ⊢
      wp frame (wpE (defs₀ (F := F)) 𝒱₀ (c : Thread nD τ) none) E (k0_t4_body i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 j sel cnt 1#32 k u)
        (fun _ => owns (c : Thread nD τ) arg10 fullShare (stepT4 v152 v156 v230 v233 v234 k0_hw3 j sel cnt k f)) := by
  unfold owns
  iintro ⟨%f0, %hf0, H⟩
  obtain rfl := hf0
  sl_unfold [k0_t4_body]
  sl_exec!
  sl_step
  iexists _; isplitr; swap; · iexact H
  ipureintro
  rw [View.read_writes_cons_put arg10.view f0 _ _ _ rfl, View.readAt_unit arg10.view f0 _ rfl (k0_off8_inb v156 v233 v234 k0_hw3 j k)]
  rfl

theorem t3_trip (v39 : IVec S1x1600 32) (v152 : IVec S1x1600 32) (v156 : BitVec 32) (k0_hw2 : k0_chk2 v156) (v174 : BitVec 32) (v230 : FVec F S1600x256 .bf16) (v232 : FVec F S4x1600 .f32) (v233 : Elt F .i32) (k0_hw1 : k0_chk1 v156 v233) (v234 : Elt F .i32) (k0_hw3 : k0_chk3 v156 v233 v234)
  (v268 : BitVec 32) (v269 : IVec S160x1600 32) (v271 : BitVec 32) (v278 : FVec F S320x1600 .f32) (v279 : FVec F S4x320 .f32) (v294 : FVec F S1x4x160 .f32) (v325 : BitVec 32)
    (j : Fin (k0_t3_loop v233 v234).trips) (u : Unit) (f : Vec F S250x160x256 .f32) (g : Vec F S250x4x160 .f32) :
    iprop(owns (c : Thread nD τ) arg10 fullShare f ∗ owns (c : Thread nD τ) arg11 fullShare g : sProp 𝕄) ⊢
      wp frame (wpE (defs₀ (F := F)) 𝒱₀ (c : Thread nD τ) none) E (k0_t3_body i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 v325 j u)
        (fun _ => iprop(owns (c : Thread nD τ) arg10 fullShare (stepT3f v39 v152 v156 v230 v232 v233 v234 k0_hw3 v269 v325 j f)
          ∗ owns (c : Thread nD τ) arg11 fullShare (stepT3g v39 v156 v232 v233 v234 k0_hw3 v269 v325 j g))) := by
  unfold owns
  iintro ⟨⟨%f0, %hf0, H⟩, ⟨%g0, %hg0, G⟩⟩
  obtain rfl := hf0
  obtain rfl := hg0
  sl_unfold [k0_t3_body]
  sl_exec!
  irename H => H0
  ihave H := (owns_of_read c arg10 _ fullShare (VecWindow.put (arg10.view.read (Elt F) f0) (k0_off7 v233 v234 j) S1x160x256.size
      (k0_pay7 v39 v152 v230 v232 v233 v234 v269 v325 1#32 j
        (VecWindow.window (arg10.view.read (Elt F) f0) (k0_off7 v233 v234 j) S1x160x256.size (k0_off7_inb v156 v233 v234 k0_hw3 j)))) (by
    rw [View.read_writes_cons_put arg10.view f0 _ _ _ rfl]
    sl_unfold_run_names
    rw [View.readAt_unit arg10.view f0 _ rfl (k0_off7_inb v156 v233 v234 k0_hw3 j)]
    rfl)) $$ H0
  sl_for (fun k _ => owns (c : Thread nD τ) arg10 fullShare (iter (stepT4 v152 v156 v230 v233 v234 k0_hw3 j (k0_pay3 v39 v233 v234 v269 v325 1#32 j) (k0_pay6 v39 v232 v233 v234 v269 v325 1#32 j))
    (VecWindow.put (arg10.view.read (Elt F) f0) (k0_off7 v233 v234 j) S1x160x256.size
      (k0_pay7 v39 v152 v230 v232 v233 v234 v269 v325 1#32 j
        (VecWindow.window (arg10.view.read (Elt F) f0) (k0_off7 v233 v234 j) S1x160x256.size (k0_off7_inb v156 v233 v234 k0_hw3 j)))) k)) $$ [H]
  · intro k u
    rw [iter_succ]
    exact t4_trip c E i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 j _ _ k u _
  · iexact H
  iintro %acc H
  unfold owns
  icases H with ⟨%f1, %hf1, H⟩
  sl_exec!
  sl_step
  isplitl [H]
  · iexists _; isplitr; swap; · iexact H
    ipureintro; exact hf1
  iexists _; isplitr; swap; · iexact G
  ipureintro
  rw [View.read_writes_cons_put arg11.view g0 _ _ _ rfl]
  sl_unfold_run_names
  rw [View.readAt_unit arg11.view g0 _ rfl (k0_off6_inb v156 v233 v234 k0_hw3 j)]
  rfl

/-- The pair of tiles' maxima after its first phase. -/
def pairF0 (v152 : IVec S1x1600 32) (v156 : BitVec 32) (v230 : FVec F S1600x256 .bf16) (v278 : FVec F S320x1600 .f32) (v279 : FVec F S4x320 .f32)
    (v233 : Elt F .i32) (hw1 : k0_chk1 v156 v233) (f : Vec F S250x160x256 .f32) : Vec F S250x160x256 .f32 :=
  VecWindow.put f (k0_off3 v233) S2x160x256.size
    (k0_pay34 v152 v230 v278 v279 (VecWindow.window f (k0_off3 v233) S2x160x256.size (k0_off3_inb v156 v233 hw1)))

/-- The pair of tiles' maxima after all phases. -/
def pairF (v152 : IVec S1x1600 32) (v156 : BitVec 32) (v230 : FVec F S1600x256 .bf16) (v278 : FVec F S320x1600 .f32) (v279 : FVec F S4x320 .f32)
    (v233 : Elt F .i32) (hw1 : k0_chk1 v156 v233) (f : Vec F S250x160x256 .f32) : Vec F S250x160x256 .f32 :=
  iter (stepT1 v152 v156 v230 v278 v279 v233 hw1) (pairF0 v152 v156 v230 v278 v279 v233 hw1 f) (k0_t1_loop v156).trips

/-- All further tiles' maxima. -/
def restF (v39 v152 : IVec S1x1600 32) (v156 : BitVec 32) (v230 : FVec F S1600x256 .bf16) (v232 : FVec F S4x1600 .f32) (v233 v234 : Elt F .i32)
    (hw3 : k0_chk3 v156 v233 v234) (v269 : IVec S160x1600 32) (v271 : BitVec 32) (f : Vec F S250x160x256 .f32) : Vec F S250x160x256 .f32 :=
  iter (stepT3f v39 v152 v156 v230 v232 v233 v234 hw3 v269 (Scalar.addi v271 2#32)) f (k0_t3_loop v233 v234).trips

/-- All further tiles' sums. -/
def restG (v39 : IVec S1x1600 32) (v156 : BitVec 32) (v232 : FVec F S4x1600 .f32) (v233 v234 : Elt F .i32)
    (hw3 : k0_chk3 v156 v233 v234) (v269 : IVec S160x1600 32) (v271 : BitVec 32) (g : Vec F S250x4x160 .f32) : Vec F S250x4x160 .f32 :=
  iter (stepT3g v39 v156 v232 v233 v234 hw3 v269 (Scalar.addi v271 2#32)) g (k0_t3_loop v233 v234).trips

theorem part10_run (v39 : IVec S1x1600 32) (v152 : IVec S1x1600 32) (v156 : BitVec 32) (k0_hw2 : k0_chk2 v156) (v174 : BitVec 32) (v230 : FVec F S1600x256 .bf16) (v232 : FVec F S4x1600 .f32) (v233 : Elt F .i32) (k0_hw1 : k0_chk1 v156 v233) (v234 : Elt F .i32) (k0_hw3 : k0_chk3 v156 v233 v234)
  (v268 : BitVec 32) (v269 : IVec S160x1600 32) (v271 : BitVec 32) (v278 : FVec F S320x1600 .f32) (v279 : FVec F S4x320 .f32) (v294 : FVec F S1x4x160 .f32) (f : Vec F S250x160x256 .f32) (g : Vec F S250x4x160 .f32) :
    iprop(owns (c : Thread nD τ) arg10 fullShare f ∗ owns (c : Thread nD τ) arg11 fullShare g : sProp 𝕄) ⊢
      wp frame (wpE (defs₀ (F := F)) 𝒱₀ (c : Thread nD τ) none) E (k0_part10 i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294)
        (fun _ => iprop(owns (c : Thread nD τ) arg10 fullShare (restF v39 v152 v156 v230 v232 v233 v234 k0_hw3 v269 v271 (pairF v152 v156 v230 v278 v279 v233 k0_hw1 f))
          ∗ owns (c : Thread nD τ) arg11 fullShare (restG v39 v156 v232 v233 v234 k0_hw3 v269 v271 (VecWindow.put g (k0_off2 v233) S1x4x160.size v294)))) := by
  unfold owns
  iintro ⟨⟨%f0, %hf0, H⟩, ⟨%g0, %hg0, G⟩⟩
  obtain rfl := hf0
  obtain rfl := hg0
  sl_unfold [k0_part10]
  sl_exec!
  irename H => H0
  irename G => G0
  ihave H := (owns_of_read c arg10 _ fullShare (pairF0 v152 v156 v230 v278 v279 v233 k0_hw1 (arg10.view.read (Elt F) f0)) (by
    rw [View.read_writes_cons_put arg10.view f0 _ _ _ rfl]
    sl_unfold_run_names
    rw [View.readAt_unit arg10.view f0 _ rfl (k0_off3_inb v156 v233 k0_hw1)]
    rfl)) $$ H0
  ihave G := (owns_of_read c arg11 _ fullShare (VecWindow.put (arg11.view.read (Elt F) g0) (k0_off2 v233) S1x4x160.size v294) (by
    rw [View.read_writes_cons_put arg11.view g0 _ _ _ rfl]
    rfl)) $$ G0
  sl_for (fun k _ => owns (c : Thread nD τ) arg10 fullShare (iter (stepT1 v152 v156 v230 v278 v279 v233 k0_hw1) (pairF0 v152 v156 v230 v278 v279 v233 k0_hw1 (arg10.view.read (Elt F) f0)) k)) $$ [H]
  · intro k u
    rw [iter_succ]
    exact t1_trip c E i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 k u _
  · iexact H
  iintro %acc H
  sl_exec!
  sl_for (fun k _ => iprop(owns (c : Thread nD τ) arg10 fullShare (iter (stepT3f v39 v152 v156 v230 v232 v233 v234 k0_hw3 v269 (Scalar.addi v271 2#32)) (pairF v152 v156 v230 v278 v279 v233 k0_hw1 (arg10.view.read (Elt F) f0)) k)
    ∗ owns (c : Thread nD τ) arg11 fullShare (iter (stepT3g v39 v156 v232 v233 v234 k0_hw3 v269 (Scalar.addi v271 2#32)) (VecWindow.put (arg11.view.read (Elt F) g0) (k0_off2 v233) S1x4x160.size v294) k))) $$ [H G]
  · intro k u
    rw [iter_succ, iter_succ]
    exact t3_trip c E i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 _ k u _ _
  · rw [iter_zero, iter_zero]
    isplitl [H]
    · unfold pairF
      iexact H
    iexact G
  iintro %acc2 ⟨H, G⟩
  sl_exec!
  sl_step
  unfold restF restG owns
  isplitl [H]
  · iexact H
  iexact G

end Cert.Proof.KernelIdeal

end
-- ==== Proof.KI.Body.lean ====
/- One run of the kernel's body: what it leaves in its two results' buffers. -/
module

public import proofs.«01_k».proof.Proof.KI.Inner
public import proofs.«01_k».proof.Proof.Gen.KernelIdeal.Skeleton
public import proofs.«01_k».proof.Proof.Gen.KernelIdeal.Launch
public import Idealize.ShloMosaic.Lib.Tactic
public import Idealize.ShloMosaic.Lib.VecWindow
public import Idealize.ShloMosaic.Lib.LoopRemainder

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values one block computes -/

/-- Each row's product: layer norm, then the linear map. -/
def linOf (x2 : Vec F S1600x128 .f32) (x6 x7 : Vec F S1x128 .f32) (x8 : Vec F S128x256 .bf16) (x9 : Vec F S1x256 .f32) : FVec F S1600x256 .f32 :=
  k0_pay15 x2 x6 x7 x8 x9

/-- The segment numbers of the block's rows, as a row. -/
def idsOf (x5 : Vec F S1x1x1600 .i32) : IVec S1x1600 32 := k0_pay17 (F := F) x5

/-- Each row's place in its run of equal segment numbers. -/
def placeOf (x5 : Vec F S1x1x1600 .i32) : IVec S1x1600 32 :=
  k0_pay22 (k0_pay17 (F := F) x5) (k0_pay19 (k0_pay17 (F := F) x5) (k0_pay18 (F := F) x5) 0#32)
    (k0_pay20 (k0_pay17 (F := F) x5) (k0_pay18 (F := F) x5) 0#32) (k0_pay21 (k0_pay17 (F := F) x5))

/-- The largest place. -/
def topOf (x5 : Vec F S1x1x1600 .i32) : BitVec 32 :=
  extractAt ![0, 0, 0] (k0_pay23 (k0_pay17 (F := F) x5) (k0_pay19 (k0_pay17 (F := F) x5) (k0_pay18 (F := F) x5) 0#32)
    (k0_pay20 (k0_pay17 (F := F) x5) (k0_pay18 (F := F) x5) 0#32) (k0_pay21 (k0_pay17 (F := F) x5))) inpos_S1x1x1_p0_0_0

/-- The largest product among a row and the rows that follow it in its run, for at most 32 rows. -/
def sufOf (l : FVec F S1600x256 .f32) (x4 : Vec F S1600x1 .i32) : FVec F S1600x256 .bf16 :=
  k0_pay27 (k0_pay16 (F := F) x4) (k0_pay24 l (k0_pay16 (F := F) x4)) (k0_pay25 l (k0_pay16 (F := F) x4)) (k0_pay26 (k0_pay16 (F := F) x4))

/-- The coordinates and a row of ones. -/
def augOf (x3 : Vec F S1x4x1600 .f32) : FVec F S4x1600 .f32 := k0_pay28 x3

/-- The first and the last segment number of the block. -/
def loOf (x1 : Vec F S1x1x2 .i32) : BitVec 32 := x1 (fun a => ⟨(![0, 0, 0] : Fin 3 → ℕ) a, by fin_cases a <;> decide⟩)
def hiOf (x1 : Vec F S1x1x2 .i32) : BitVec 32 := x1 (fun a => ⟨(![0, 0, 1] : Fin 3 → ℕ) a, by fin_cases a <;> decide⟩)

/-- The number of the tile a segment is in. -/
def tileOf (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 160#32 0#32)) (Scalar.extui (Scalar.cmpi .slt 160#32 0#32))))
      (Scalar.cmpi .ne (Scalar.remsi v 160#32) 0#32))
    (Scalar.subi (Scalar.divsi v 160#32) 1#32) (Scalar.divsi v 160#32)

/-- What the block leaves in the maxima, from what it finds there, but for the first block's start and the last one's finish. -/
def midF (x1 : Vec F S1x1x2 .i32) (x3 : Vec F S1x4x1600 .f32) (x5 : Vec F S1x1x1600 .i32) (v : FVec F S1600x256 .bf16)
    (h1 : k0_chk1 (topOf (F := F) x5) (loOf (F := F) x1)) (h3 : k0_chk3 (topOf (F := F) x5) (loOf (F := F) x1) (hiOf (F := F) x1))
    (f : Vec F S250x160x256 .f32) : Vec F S250x160x256 .f32 :=
  restF (idsOf (F := F) x5) (placeOf (F := F) x5) (topOf (F := F) x5) v (augOf x3) (loOf (F := F) x1) (hiOf (F := F) x1) h3
    (iota .tc S160x1600 32 [0] iota_S160x1600_d0_w32) (Scalar.minsi (tileOf (loOf (F := F) x1)) 248#32)
    (pairF (placeOf (F := F) x5) (topOf (F := F) x5) v (k0_pay29 (F := F) (idsOf (F := F) x5) (tileOf (loOf (F := F) x1)))
      (k0_pay30 (F := F) (idsOf (F := F) x5) (augOf x3) (tileOf (loOf (F := F) x1))) (loOf (F := F) x1) h1 f)

/-- The first tile's sums. -/
def pairG1 (x1 : Vec F S1x1x2 .i32) (x3 : Vec F S1x4x1600 .f32) (x5 : Vec F S1x1x1600 .i32)
    (h1 : k0_chk1 (topOf (F := F) x5) (loOf (F := F) x1)) (g : Vec F S250x4x160 .f32) : Vec F S250x4x160 .f32 :=
  VecWindow.put g (k0_off1 (loOf (F := F) x1)) S1x4x160.size
    (k0_pay31 (idsOf (F := F) x5) (augOf x3) (tileOf (loOf (F := F) x1))
      (VecWindow.window g (k0_off1 (loOf (F := F) x1)) S1x4x160.size (k0_off1_inb _ _ h1)))

/-- The first two tiles' sums. -/
def pairG (x1 : Vec F S1x1x2 .i32) (x3 : Vec F S1x4x1600 .f32) (x5 : Vec F S1x1x1600 .i32)
    (h1 : k0_chk1 (topOf (F := F) x5) (loOf (F := F) x1)) (g : Vec F S250x4x160 .f32) : Vec F S250x4x160 .f32 :=
  VecWindow.put (pairG1 x1 x3 x5 h1 g) (k0_off2 (loOf (F := F) x1)) S1x4x160.size
    (k0_pay32 (idsOf (F := F) x5) (augOf x3) (tileOf (loOf (F := F) x1))
      (VecWindow.window (pairG1 x1 x3 x5 h1 g) (k0_off2 (loOf (F := F) x1)) S1x4x160.size (k0_off2_inb _ _ h1)))

/-- What the block leaves in the sums, likewise. -/
def midG (x1 : Vec F S1x1x2 .i32) (x3 : Vec F S1x4x1600 .f32) (x5 : Vec F S1x1x1600 .i32)
    (h1 : k0_chk1 (topOf (F := F) x5) (loOf (F := F) x1)) (h3 : k0_chk3 (topOf (F := F) x5) (loOf (F := F) x1) (hiOf (F := F) x1))
    (g : Vec F S250x4x160 .f32) : Vec F S250x4x160 .f32 :=
  restG (idsOf (F := F) x5) (topOf (F := F) x5) (augOf x3) (loOf (F := F) x1) (hiOf (F := F) x1) h3
    (iota .tc S160x1600 32 [0] iota_S160x1600_d0_w32) (Scalar.minsi (tileOf (loOf (F := F) x1)) 248#32) (pairG x1 x3 x5 h1 g)

/-- The first block starts the maxima at the least value. -/
def startF (i : grid0.Coords) (f : Vec F S250x160x256 .f32) : Vec F S250x160x256 .f32 :=
  if Scalar.cmpi .ne (Scalar.extui (Scalar.cmpi .eq (BitVec.ofNat 32 (i 0).val) 0#32)) 0#32 = 1#1 then k0_pay13 (F := F) else f

/-- The first block starts the sums at zero. -/
def startG (i : grid0.Coords) (g : Vec F S250x4x160 .f32) : Vec F S250x4x160 .f32 :=
  if Scalar.cmpi .ne (Scalar.extui (Scalar.cmpi .eq (BitVec.ofNat 32 (i 0).val) 0#32)) 0#32 = 1#1 then k0_pay14 (F := F) else g

/-- The last block puts zero for the maxima of segments without rows. -/
def endF (i : grid0.Coords) (f : Vec F S250x160x256 .f32) : Vec F S250x160x256 .f32 :=
  if Scalar.cmpi .ne (Scalar.extui (Scalar.cmpi .eq (BitVec.ofNat 32 (i 0).val) 199#32)) 0#32 = 1#1 then k0_pay1 f else f

/-- The last block divides the sums by the counts. -/
def endG (i : grid0.Coords) (g : Vec F S250x4x160 .f32) : Vec F S250x4x160 .f32 :=
  if Scalar.cmpi .ne (Scalar.extui (Scalar.cmpi .eq (BitVec.ofNat 32 (i 0).val) 199#32)) 0#32 = 1#1 then k0_pay2 g else g

/-- The maxima from values known by equations. -/
theorem midF_of (v39 v152 : IVec S1x1600 32) (t : BitVec 32) (v : FVec F S1600x256 .bf16) (a : FVec F S4x1600 .f32) (lo hi : BitVec 32)
    (v269 : IVec S160x1600 32) (v271 : BitVec 32) (v278 : FVec F S320x1600 .f32) (v279 : FVec F S4x320 .f32)
    (k1 : k0_chk1 t lo) (k3 : k0_chk3 t lo hi)
    (x1 : Vec F S1x1x2 .i32) (x3 : Vec F S1x4x1600 .f32) (x5 : Vec F S1x1x1600 .i32) (w : FVec F S1600x256 .bf16)
    (h1 : k0_chk1 (topOf (F := F) x5) (loOf (F := F) x1)) (h3 : k0_chk3 (topOf (F := F) x5) (loOf (F := F) x1) (hiOf (F := F) x1))
    (f f' : Vec F S250x160x256 .f32) (ef : f' = f) (e39 : idsOf (F := F) x5 = v39) (e152 : placeOf (F := F) x5 = v152) (et : topOf (F := F) x5 = t)
    (ev : w = v) (ea : augOf x3 = a) (elo : loOf (F := F) x1 = lo) (ehi : hiOf (F := F) x1 = hi)
    (e269 : iota .tc S160x1600 32 [0] iota_S160x1600_d0_w32 = v269) (e271 : Scalar.minsi (tileOf lo) 248#32 = v271)
    (e278 : k0_pay29 (F := F) v39 (tileOf lo) = v278) (e279 : k0_pay30 (F := F) v39 a (tileOf lo) = v279) :
    restF v39 v152 t v a lo hi k3 v269 v271 (pairF v152 t v v278 v279 lo k1 f) = midF x1 x3 x5 w h1 h3 f' := by
  subst e279 e278 e271 e269 ef
  subst ehi elo ea ev et e152 e39
  unfold midF
  rfl

/-- The sums from values known by equations. -/
theorem midG_of (v39 : IVec S1x1600 32) (t : BitVec 32) (a : FVec F S4x1600 .f32) (lo hi : BitVec 32)
    (v269 : IVec S160x1600 32) (v271 : BitVec 32)
    (k1 : k0_chk1 t lo) (k3 : k0_chk3 t lo hi)
    (x1 : Vec F S1x1x2 .i32) (x3 : Vec F S1x4x1600 .f32) (x5 : Vec F S1x1x1600 .i32)
    (h1 : k0_chk1 (topOf (F := F) x5) (loOf (F := F) x1)) (h3 : k0_chk3 (topOf (F := F) x5) (loOf (F := F) x1) (hiOf (F := F) x1))
    (g g' : Vec F S250x4x160 .f32) (eg : g' = g) (e39 : idsOf (F := F) x5 = v39) (et : topOf (F := F) x5 = t)
    (ea : augOf x3 = a) (elo : loOf (F := F) x1 = lo) (ehi : hiOf (F := F) x1 = hi)
    (e269 : iota .tc S160x1600 32 [0] iota_S160x1600_d0_w32 = v269) (e271 : Scalar.minsi (tileOf lo) 248#32 = v271) :
    restG v39 t a lo hi k3 v269 v271
      (VecWindow.put
        (VecWindow.put g (k0_off1 lo) S1x4x160.size
          (k0_pay31 v39 a (tileOf lo) (VecWindow.window g (k0_off1 lo) S1x4x160.size (k0_off1_inb _ _ k1))))
        (k0_off2 lo) S1x4x160.size
        (k0_pay32 v39 a (tileOf lo)
          (VecWindow.window
            (VecWindow.put g (k0_off1 lo) S1x4x160.size
              (k0_pay31 v39 a (tileOf lo) (VecWindow.window g (k0_off1 lo) S1x4x160.size (k0_off1_inb _ _ k1))))
            (k0_off2 lo) S1x4x160.size (k0_off2_inb _ _ k1))))
      = midG x1 x3 x5 h1 h3 g' := by
  subst e271 e269 eg
  subst ehi elo ea et e39
  unfold midG pairG pairG1
  rfl

variable (c : Dev nD) (E : Set ℕ) (i : grid0.Coords)
  (arg1 : Memref sig .tc .smem S1x1x2 .i32) (harg1 : arg1.IsWhole)
  (arg2 : Memref sig .tc .vmem S1600x128 .f32) (harg2 : arg2.IsWhole)
  (arg3 : Memref sig .tc .vmem S1x4x1600 .f32) (harg3 : arg3.IsWhole)
  (arg4 : Memref sig .tc .vmem S1600x1 .i32) (harg4 : arg4.IsWhole)
  (arg5 : Memref sig .tc .vmem S1x1x1600 .i32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S128x256 .bf16) (harg8 : arg8.IsWhole)
  (arg9 : Memref sig .tc .vmem S1x256 .f32) (harg9 : arg9.IsWhole)
  (arg10 : Memref sig .tc .vmem S250x160x256 .f32) (harg10 : arg10.IsWhole)
  (arg11 : Memref sig .tc .vmem S250x4x160 .f32) (harg11 : arg11.IsWhole)

/-- Held at contents that read `X`, a memref is held at some contents that read `X`. -/
theorem pts_of_read {sp : Space} {s : Shape} {e : EltTy} (m : Memref sig .tc sp s e) (g : Buf (Elt F) (m.view.loc (c : Thread nD τ)))
    (q : PosShare TreeShare) (X : s.Idx → Elt F e) (h : m.view.read (Elt F) g = X) :
    (m.view.loc (c : Thread nD τ) ↦[m.view.set]{q} g : sProp 𝕄)
      ⊢ iprop(∃ f, ⌜m.view.read (Elt F) f = X⌝ ∗ (m.view.loc (c : Thread nD τ) ↦[m.view.set]{q} f)) :=
  owns_of_read c m g q X h

theorem body_run
    (x1 : Vec F S1x1x2 .i32) (x2 : Vec F S1600x128 .f32) (x3 : Vec F S1x4x1600 .f32) (x4 : Vec F S1600x1 .i32) (x5 : Vec F S1x1x1600 .i32)
    (x6 x7 : Vec F S1x128 .f32) (x8 : Vec F S128x256 .bf16) (x9 : Vec F S1x256 .f32)
    (h2 : k0_chk2 (topOf (F := F) x5)) (h1 : k0_chk1 (topOf (F := F) x5) (loOf (F := F) x1))
    (h3 : k0_chk3 (topOf (F := F) x5) (loOf (F := F) x1) (hiOf (F := F) x1))
    (f : Vec F S250x160x256 .f32) (g : Vec F S250x4x160 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare f ∗ owns (c : Thread nD τ) arg11 fullShare g
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare (endF i (midF x1 x3 x5 (sufOf (linOf x2 x6 x7 x8 x9) x4) h1 h3 (startF i f)))
        ∗ owns (c : Thread nD τ) arg11 fullShare (endG i (midG x1 x3 x5 h1 h3 (startG i g)))) -∗ K ⟨⟩))
      ⊢ wp frame (wpE (defs₀ (F := F)) 𝒱₀ (c : Thread nD τ) none) E (cc0__body i arg1 harg1 arg2 harg2 arg3 harg3 arg4 harg4 arg5 harg5 arg6 harg6 arg7 harg7 arg8 harg8 arg9 harg9 arg10 harg10 arg11 harg11) K := by
  have hcut := fun (v39 : IVec S1x1600 32) (v152 : IVec S1x1600 32) (v156 : BitVec 32) (k0_hw2 : k0_chk2 v156) (v174 : BitVec 32) (v230 : FVec F S1600x256 .bf16) (v232 : FVec F S4x1600 .f32) (v233 : Elt F .i32) (k0_hw1 : k0_chk1 v156 v233) (v234 : Elt F .i32) (k0_hw3 : k0_chk3 v156 v233 v234)
  (v268 : BitVec 32) (v269 : IVec S160x1600 32) (v271 : BitVec 32) (v278 : FVec F S320x1600 .f32) (v279 : FVec F S4x320 .f32) (v294 : FVec F S1x4x160 .f32) (f : Vec F S250x160x256 .f32) (g : Vec F S250x4x160 .f32) => part10_run c E i arg1 harg1 arg2 harg2 arg3 harg3 arg4 harg4 arg5 harg5 arg6 harg6 arg7 harg7 arg8 harg8 arg9 harg9 arg10 harg10 arg11 harg11 v39 v152 v156 k0_hw2 v174 v230 v232 v233 k0_hw1 v234 k0_hw3 v268 v269 v271 v278 v279 v294 f g
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  sl_unfold [cc0__body]
  subst hf1 hf2 hf3 hf4 hf5 hf6 hf7 hf8 hf9 hf10 hf11
  sl_exec!
  have e156 : body_run.sl.v156 c arg5 f5 = topOf (F := F) (arg5.view.read (Elt F) f5) := by
    sl_unfold_run_names
    rw [View.readAt_full arg5.view f5 inb_S1x1x1600_S1x1x1600_0_0_0]
    rfl
  have hk2 : k0_chk2 (body_run.sl.v156 c arg5 f5) := e156 ▸ h2
  sl_exec!
  have elo : body_run.sl.r_5 c arg1 f1 = loOf (F := F) (arg1.view.read (Elt F) f1) := by
    sl_unfold_run_names
    exact congrArg (arg1.view.read (Elt F) f1) (funext fun a => by fin_cases a <;> rfl)
  have hk1 : k0_chk1 (body_run.sl.v156 c arg5 f5) (body_run.sl.r_5 c arg1 f1) := by rw [e156, elo]; exact h1
  sl_exec!
  have ehi : body_run.sl.r_6 c arg1 f1 = hiOf (F := F) (arg1.view.read (Elt F) f1) := by
    sl_unfold_run_names
    exact congrArg (arg1.view.read (Elt F) f1) (funext fun a => by fin_cases a <;> rfl)
  have hk3 : k0_chk3 (body_run.sl.v156 c arg5 f5) (body_run.sl.r_5 c arg1 f1) (body_run.sl.r_6 c arg1 f1) := by
    rw [e156, elo, ehi]; exact h3
  irename H10 => G10
  irename H11 => G11
  ihave H10 := (pts_of_read c arg10 _ fullShare (startF i (arg10.view.read (Elt F) f10)) (by
    sl_unfold_run_names
    unfold startF
    split
    · rw [View.read_writes_full]
    · rfl)) $$ G10
  icases H10 with ⟨%g10, %hg10, H10⟩
  ihave H11 := (pts_of_read c arg11 _ fullShare (startG i (arg11.view.read (Elt F) f11)) (by
    sl_unfold_run_names
    unfold startG
    split
    · rw [View.read_writes_full]
    · rfl)) $$ G11
  icases H11 with ⟨%g11, %hg11, H11⟩
  sl_exec!
  have e39 : body_run.sl.v39 c arg5 f5 = idsOf (F := F) (arg5.view.read (Elt F) f5) := by
    sl_unfold_run_names
    rw [View.readAt_full arg5.view f5 inb_S1x1x1600_S1x1x1600_0_0_0]
    rfl
  have e152 : body_run.sl.v152 c arg5 f5 = placeOf (F := F) (arg5.view.read (Elt F) f5) := by
    sl_unfold_run_names
    rw [View.readAt_full arg5.view f5 inb_S1x1x1600_S1x1x1600_0_0_0]
    rfl
  have er7 : body_run.sl.r_7 c arg2 arg4 arg6 arg7 arg8 arg9 f2 f4 f6 f7 f8 f9
      = sufOf (linOf (arg2.view.read (Elt F) f2) (arg6.view.read (Elt F) f6) (arg7.view.read (Elt F) f7) (arg8.view.read (Elt F) f8)
          (arg9.view.read (Elt F) f9)) (arg4.view.read (Elt F) f4) := by
    sl_unfold_run_names
    rw [View.readAt_full arg2.view f2 inb_S1600x128_S1600x128_0_0, View.readAt_full arg4.view f4 inb_S1600x1_S1600x1_0_0,
      View.readAt_full arg6.view f6 inb_S1x128_S1x128_0_0, View.readAt_full arg7.view f7 inb_S1x128_S1x128_0_0,
      View.readAt_full arg8.view f8 inb_S128x256_S128x256_0_0, View.readAt_full arg9.view f9 inb_S1x256_S1x256_0_0]
    rfl
  have er8 : body_run.sl.r_8 c arg3 f3 = augOf (arg3.view.read (Elt F) f3) := by
    sl_unfold_run_names
    rw [View.readAt_full arg3.view f3 inb_S1x4x1600_S1x4x1600_0_0_0]
    rfl
  have e269 : body_run.sl.v269 = iota .tc S160x1600 32 [0] iota_S160x1600_d0_w32 := rfl
  have e251 : body_run.sl.v271 c arg1 f1 = Scalar.minsi (tileOf (body_run.sl.r_5 c arg1 f1)) 248#32 := rfl
  have eg1 : arg11.view.read (Elt F) (arg11.view.writes (Elt F) g11 (body_run.sl.H11_1 c arg1 arg3 arg5 arg11 f1 f3 f5 hk1 g11))
      = VecWindow.put (arg11.view.read (Elt F) g11) (k0_off1 (body_run.sl.r_5 c arg1 f1)) S1x4x160.size
        (k0_pay31 (body_run.sl.v39 c arg5 f5) (body_run.sl.r_8 c arg3 f3) (tileOf (body_run.sl.r_5 c arg1 f1))
          (VecWindow.window (arg11.view.read (Elt F) g11) (k0_off1 (body_run.sl.r_5 c arg1 f1)) S1x4x160.size (k0_off1_inb _ _ hk1))) := by
    refine (View.read_writes_cons_put arg11.view g11 _ _ _ rfl).trans ?_
    rfl
  have eg2 : body_run.sl.v294 c arg1 arg3 arg5 arg11 f1 f3 f5 hk1 g11
      = k0_pay32 (body_run.sl.v39 c arg5 f5) (body_run.sl.r_8 c arg3 f3) (tileOf (body_run.sl.r_5 c arg1 f1))
          (VecWindow.window (arg11.view.read (Elt F) (arg11.view.writes (Elt F) g11 (body_run.sl.H11_1 c arg1 arg3 arg5 arg11 f1 f3 f5 hk1 g11)))
            (k0_off2 (body_run.sl.r_5 c arg1 f1)) S1x4x160.size (k0_off2_inb _ _ hk1)) := rfl
  have hF := hk0_part10_0.trans (midF_of _ _ _ _ _ _ _ _ _ _ _ hk1 hk3 _ _ _ _ h1 h3 _ _ hg10.symm e39.symm e152.symm e156.symm er7.symm er8.symm elo.symm ehi.symm e269.symm e251.symm
    rfl rfl)
  rw [eg2, eg1] at hk0_part10_2
  have hG := hk0_part10_2.trans (midG_of _ _ _ _ _ _ _ hk1 hk3 _ _ _ h1 h3 _ _ hg11.symm e39.symm e156.symm er8.symm elo.symm ehi.symm e269.symm e251.symm)
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [Hk0_part10_1]
  · iexists _; isplitr; swap; · iexact Hk0_part10_1
    ipureintro
    sl_unfold_run_names
    unfold endF
    split
    · rw [View.read_writes_full, View.readAt_full arg10.view _ inb_S250x160x256_S250x160x256_0_0_0, hF]
    · exact hF
  iexists _; isplitr; swap; · iexact Hk0_part10_3
  ipureintro
  sl_unfold_run_names
  unfold endG
  split
  · rw [View.read_writes_full, View.readAt_full arg11.view _ inb_S250x4x160_S250x4x160_0_0_0, hG]
  · exact hG

end Cert.Proof.KernelIdeal

end
-- ==== Proof.KI.Checks.lean ====
module

public import proofs.«01_k».proof.KernelIdeal
public import proofs.«01_k».proof.Proof.Word

@[expose] public section

set_option maxRecDepth 16384

/-! The tiles a grid point reads and writes, and that its checks hold, when its first and last segment numbers are in range. -/

namespace Cert.Proof.KernelIdeal

open Idealize.ShloMosaic Cert.KernelIdeal Cert.Proof

/-- The first of the two tiles a block starts with. -/
def firstTile (lo : BitVec 32) : Nat := min (lo.toNat / 160) 248

theorem first_isInt (lo : BitVec 32) (h : InRange lo) :
    Affine.IsInt (Scalar.minsi (floorDiv 160#32 lo) 248#32) (firstTile lo : Int) := by
  have e : (lo.toNat : Int) = lo.toInt := Affine.toNat_of (Affine.word lo) h.1
  have d : (160#32 : BitVec 32).toInt = 160 := by decide
  refine Affine.minsi (floorDiv_isInt 160#32 lo (by decide) h.1) (Affine.ofNat 248 ⟨rfl, by decide⟩) ?_
  rw [d, ← e]; unfold firstTile; omega

theorem last_isInt (hi : BitVec 32) (h : InRange hi) :
    Affine.IsInt (floorDiv 160#32 hi) ((hi.toNat / 160 : Nat) : Int) := by
  have e : (hi.toNat : Int) = hi.toInt := Affine.toNat_of (Affine.word hi) h.1
  have d : (160#32 : BitVec 32).toInt = 160 := by decide
  refine Affine.relit (floorDiv_isInt 160#32 hi (by decide) h.1) ?_
  rw [d, ← e]; omega

theorem firstTile_le (lo : BitVec 32) : firstTile lo ≤ 248 := Nat.min_le_right _ _

theorem lastTile_le (hi : BitVec 32) (h : InRange hi) : hi.toNat / 160 ≤ 249 := by
  have e : (hi.toNat : Int) = hi.toInt := Affine.toNat_of (Affine.word hi) h.1
  have := h.2
  omega

theorem one_isInt : Affine.IsInt 1#32 1 := Affine.ofNat 1 ⟨rfl, by decide⟩
theorem two_isInt : Affine.IsInt 2#32 2 := Affine.ofNat 2 ⟨rfl, by decide⟩

theorem off_of (x : BitVec 32) (n : Nat) (h : Affine.IsInt x n) :
    (![(Scalar.indexCast x).toNat, 0, 0] : Fin 3 → Nat) = ![n, 0, 0] := by
  have := Affine.nat_eq h n rfl
  unfold Scalar.indexCast
  rw [this]

theorem off1_eq (lo : BitVec 32) (h : InRange lo) : k0_off1 lo = ![firstTile lo, 0, 0] := off_of _ _ (first_isInt lo h)
theorem off2_eq (lo : BitVec 32) (h : InRange lo) : k0_off2 lo = ![firstTile lo + 1, 0, 0] :=
  off_of (Scalar.addi (Scalar.minsi (floorDiv 160#32 lo) 248#32) 1#32) _
    (Affine.addi (first_isInt lo h) one_isInt ⟨by omega, by omega, by have := firstTile_le lo; omega⟩)
theorem off3_eq (lo : BitVec 32) (h : InRange lo) : k0_off3 lo = ![firstTile lo, 0, 0] := off_of _ _ (first_isInt lo h)
theorem off4_eq (lo : BitVec 32) (h : InRange lo) : k0_off4 lo = ![firstTile lo, 0, 0] := off_of _ _ (first_isInt lo h)
theorem off5_eq (lo : BitVec 32) (h : InRange lo) : k0_off5 lo = ![firstTile lo, 0, 0] := off_of _ _ (first_isInt lo h)

/-- The first tile after the two a block starts with. -/
theorem next_isInt (lo : BitVec 32) (h : InRange lo) : Affine.IsInt (k0_t3_loop lo 0#32).lb ((firstTile lo + 2 : Nat) : Int) :=
  Affine.addi (first_isInt lo h) two_isInt ⟨by omega, by omega, by have := firstTile_le lo; omega⟩

theorem sum_isInt (a b : BitVec 32) (na nb : Nat) (ha : Affine.IsInt a na) (hb : Affine.IsInt b nb) (h1 : na ≤ 1000) (h2 : nb ≤ 1000) :
    Affine.IsInt (Scalar.addi a (Scalar.muli (Scalar.divsi (Scalar.subi (Scalar.addi b 1#32) a) 1#32) 1#32)) ((nb + 1 : Nat) : Int) := by
  have hb1 : Affine.IsInt (Scalar.addi b 1#32) ((nb : Int) + 1) := Affine.addi hb one_isInt ⟨by omega, by omega, by omega⟩
  have hs : Affine.IsInt (Scalar.subi (Scalar.addi b 1#32) a) ((nb : Int) + 1 - na) := Affine.subi hb1 ha ⟨by omega, by omega, by omega⟩
  rw [Scalar.muli_divsi_one]
  exact Affine.addi ha hs ⟨by omega, by omega, by omega⟩

/-- How many tiles follow. -/
theorem t3_trips (lo hi : BitVec 32) (h : InRange lo) (h' : InRange hi) :
    (k0_t3_loop lo hi).trips = hi.toNat / 160 + 1 - (firstTile lo + 2) := by
  have hl := firstTile_le lo
  have hh := lastTile_le hi h'
  have l : Affine.IsInt (k0_t3_loop lo hi).lb ((firstTile lo + 2 : Nat) : Int) := next_isInt lo h
  have u : Affine.IsInt (k0_t3_loop lo hi).ub ((hi.toNat / 160 + 1 : Nat) : Int) :=
    sum_isInt (k0_t3_loop lo hi).lb (floorDiv 160#32 hi) _ _ l (last_isInt hi h') (by omega) (by omega)
  have s : Affine.IsInt (k0_t3_loop lo hi).st 1 := one_isInt
  unfold Affine.IsInt at l u s
  unfold Scf.Loop.trips Scf.trips
  rw [l, u, s]
  omega

theorem iv_isInt (lo hi : BitVec 32) (h : InRange lo) (h' : InRange hi) (k : Fin (k0_t3_loop lo hi).trips) :
    Affine.IsInt (Scf.iv (k0_t3_loop lo hi).lb 1#32 k) ((firstTile lo + 2 + k : Nat) : Int) ∧ firstTile lo + 2 + k ≤ 249 := by
  have hk := lt_of_lt_of_eq k.isLt (t3_trips lo hi h h')
  have hh := lastTile_le hi h'
  exact ⟨Affine.iv (next_isInt lo h) one_isInt k ⟨by omega, by omega, by omega⟩, by omega⟩

theorem off6_eq (lo hi : BitVec 32) (h : InRange lo) (h' : InRange hi) (k : Fin (k0_t3_loop lo hi).trips) :
    k0_off6 lo hi k = ![firstTile lo + 2 + k, 0, 0] := off_of _ _ (iv_isInt lo hi h h' k).1
theorem off7_eq (lo hi : BitVec 32) (h : InRange lo) (h' : InRange hi) (k : Fin (k0_t3_loop lo hi).trips) :
    k0_off7 lo hi k = ![firstTile lo + 2 + k, 0, 0] := off_of _ _ (iv_isInt lo hi h h' k).1
theorem off8_eq (lo hi : BitVec 32) (h : InRange lo) (h' : InRange hi) (k : Fin (k0_t3_loop lo hi).trips) :
    k0_off8 lo hi k = ![firstTile lo + 2 + k, 0, 0] := off_of _ _ (iv_isInt lo hi h h' k).1
theorem off9_eq (lo hi : BitVec 32) (h : InRange lo) (h' : InRange hi) (k : Fin (k0_t3_loop lo hi).trips) :
    k0_off9 lo hi k = ![firstTile lo + 2 + k, 0, 0] := off_of _ _ (iv_isInt lo hi h h' k).1

/-! ## The checks -/

theorem chk2 (t : BitVec 32) : k0_chk2 t := ⟨ok_one _ _, ok_one _ _⟩

theorem inb3 (n a b c d e : Nat) (h : n + a ≤ b) (h' : c ≤ d) (h'' : e ≤ e) (i : Fin 3) :
    (![n, 0, 0] : Fin 3 → Nat) i + (![a, c, e] : Fin 3 → Nat) i ≤ (![b, d, e] : Fin 3 → Nat) i := by
  fin_cases i <;> simp <;> omega

theorem chk1 (t lo : BitVec 32) (h : InRange lo) : k0_chk1 t lo := by
  have hl := firstTile_le lo
  refine ⟨?_, ?_, ?_, fun _ => ?_, fun _ => ?_⟩
  · rw [off1_eq lo h]; exact inb3 _ _ _ _ _ _ (by omega) le_rfl le_rfl
  · rw [off2_eq lo h]; exact inb3 _ _ _ _ _ _ (by omega) le_rfl le_rfl
  · rw [off3_eq lo h]; exact inb3 _ _ _ _ _ _ (by omega) le_rfl le_rfl
  · rw [off4_eq lo h]; exact inb3 _ _ _ _ _ _ (by omega) le_rfl le_rfl
  · rw [off5_eq lo h]; exact inb3 _ _ _ _ _ _ (by omega) le_rfl le_rfl

theorem chk3 (t lo hi : BitVec 32) (h : InRange lo) (h' : InRange hi) : k0_chk3 t lo hi := by
  refine ⟨ok_one _ _, fun k => ?_, fun k => ?_, fun _ => ok_one _ _, fun k _ => ?_, fun _ => ok_one _ _, fun k _ => ?_,
    ok_one _ _, fun k => (Scf.rem_no_trip _ _ k).elim, fun k => (Scf.rem_no_trip _ _ k).elim, fun _ => ok_one _ _,
    fun k _ => (Scf.rem_no_trip _ _ k).elim, fun _ => ok_one _ _, fun k _ => (Scf.rem_no_trip _ _ k).elim⟩
  · rw [off6_eq lo hi h h' k]; exact inb3 _ _ _ _ _ _ (by have := (iv_isInt lo hi h h' k).2; omega) le_rfl le_rfl
  · rw [off7_eq lo hi h h' k]; exact inb3 _ _ _ _ _ _ (by have := (iv_isInt lo hi h h' k).2; omega) le_rfl le_rfl
  · rw [off8_eq lo hi h h' k]; exact inb3 _ _ _ _ _ _ (by have := (iv_isInt lo hi h h' k).2; omega) le_rfl le_rfl
  · rw [off9_eq lo hi h h' k]; exact inb3 _ _ _ _ _ _ (by have := (iv_isInt lo hi h h' k).2; omega) le_rfl le_rfl

end Cert.Proof.KernelIdeal
-- ==== Proof.KI.Host.lean ====
/- What the host puts in the kernel's arrays before the kernel runs. -/
module

public import proofs.«01_k».proof.Proof.Gen.KernelIdeal.Frame
public import Idealize.ShloMosaic.Lib.StableHlo.RunRead
public import Idealize.ShloMosaic.Lib.StableHlo.ReadAt
public import Idealize.ShloMosaic.Lib.Pointwise
public import Idealize.ShloMosaic.Lib.Pipeline.ValueKit.Point

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo

variable {F : FTy → Type} [FloatOps F] [Named F]
variable (m : (ℓ : Loc nD τ sig) → Buf (Elt F) ℓ)

/-- The segment numbers as launched. -/
abbrev idsArg (c : Dev nD) : IVec S320000 32 := m ((c : Thread nD τ).loc main_arg2)

theorem V_ids (c : Dev nD) (t : Fin 200) (j : Fin 1600) :
    V m c main_v74 (ix3 t 0 j) = idsArg m c (ix1 ⟨t * 1600 + j, by omega⟩) := by
  dsimp only [V, V0, idsArg]
  after_reads_at

theorem V_lo (c : Dev nD) (t : Fin 200) :
    V m c main_v83 (ix3 t 0 0) = idsArg m c (ix1 ⟨t * 1600, by omega⟩) := by
  dsimp only [V, V0, idsArg]
  after_reads_at
  after_reads_at

theorem V_hi (c : Dev nD) (t : Fin 200) :
    V m c main_v83 (ix3 t 0 1) = idsArg m c (ix1 ⟨t * 1600 + 1599, by omega⟩) := by
  dsimp only [V, V0, idsArg]
  after_reads_at
  after_reads_at

/-! ## The blocks of the segment numbers at a grid point -/

theorem block0 : ∀ t : Fin cfg0.N, win0_0.index t = ![t.val, 0, 0] := by decide +kernel
theorem block4 : ∀ t : Fin cfg0.N, win0_4.index t = ![t.val, 0, 0] := by decide +kernel

theorem ids_block (c : Dev nD) (t : Fin cfg0.N) (j : Fin 1600) :
    iblk m c 4 t (ix3 0 0 j) = idsArg m c (ix1 ⟨t.val * 1600 + j, by have : t.val < 200 := t.isLt; omega⟩) := by
  rw [← V_ids m c ⟨t.val, t.isLt⟩ j]
  blk_ext [iblk, block4 t]

theorem lo_block (c : Dev nD) (t : Fin cfg0.N) :
    iblk m c 0 t (ix3 0 0 0) = idsArg m c (ix1 ⟨t.val * 1600, by have : t.val < 200 := t.isLt; omega⟩) := by
  rw [← V_lo m c ⟨t.val, t.isLt⟩]
  blk_ext [iblk, block0 t]

theorem hi_block (c : Dev nD) (t : Fin cfg0.N) :
    iblk m c 0 t (ix3 0 0 1) = idsArg m c (ix1 ⟨t.val * 1600 + 1599, by have : t.val < 200 := t.isLt; omega⟩) := by
  rw [← V_hi m c ⟨t.val, t.isLt⟩]
  blk_ext [iblk, block0 t]

end Cert.Proof.KernelIdeal
-- ==== Proof.KI.Run.lean ====
/- The kernel's run: what the two results' buffers hold after each grid point, and that the whole program ends with them. -/
module

public import proofs.«01_k».proof.Proof.KI.Body
public import proofs.«01_k».proof.Proof.KI.Checks
public import proofs.«01_k».proof.Proof.KI.Host

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every segment number is in range. -/
def IdsInRange : Prop := ∀ (c : Dev nD) (j : Fin 320000), InRange (idsArg m c (ix1 j))

variable (hr : IdsInRange m)

theorem lo_eq (c : Dev nD) (t : Fin cfg0.N) :
    loOf (F := F) (iblk m c 0 t) = idsArg m c (ix1 ⟨t.val * 1600, by have : t.val < 200 := t.isLt; omega⟩) := by
  rw [← lo_block m c t]; rfl

theorem hi_eq (c : Dev nD) (t : Fin cfg0.N) :
    hiOf (F := F) (iblk m c 0 t) = idsArg m c (ix1 ⟨t.val * 1600 + 1599, by have : t.val < 200 := t.isLt; omega⟩) := by
  rw [← hi_block m c t]; rfl

include hr in
theorem lo_range (c : Dev nD) (t : Fin cfg0.N) : InRange (loOf (F := F) (iblk m c 0 t)) := by rw [lo_eq]; exact hr c _
include hr in
theorem hi_range (c : Dev nD) (t : Fin cfg0.N) : InRange (hiOf (F := F) (iblk m c 0 t)) := by rw [hi_eq]; exact hr c _

/-! ## What the results' buffers hold -/

/-- One grid point's work on the maxima. -/
def pointF (c : Dev nD) (t : Fin cfg0.N) (f : Vec F S250x160x256 .f32) : Vec F S250x160x256 .f32 :=
  endF (grid0.coords t) (midF (iblk m c 0 t) (iblk m c 2 t) (iblk m c 4 t)
    (sufOf (linOf (iblk m c 1 t) (iblk m c 5 t) (iblk m c 6 t) (iblk m c 7 t) (iblk m c 8 t)) (iblk m c 3 t))
    (chk1 _ _ (lo_range m hr c t)) (chk3 _ _ _ (lo_range m hr c t) (hi_range m hr c t)) (startF (grid0.coords t) f))

/-- One grid point's work on the sums. -/
def pointG (c : Dev nD) (t : Fin cfg0.N) (g : Vec F S250x4x160 .f32) : Vec F S250x4x160 .f32 :=
  endG (grid0.coords t) (midG (iblk m c 0 t) (iblk m c 2 t) (iblk m c 4 t)
    (chk1 _ _ (lo_range m hr c t)) (chk3 _ _ _ (lo_range m hr c t) (hi_range m hr c t)) (startG (grid0.coords t) g))

/-- The maxima after `k` grid points. -/
def stateF (c : Dev nD) (k : ℕ) : Vec F S250x160x256 .f32 := iter (pointF m hr c) (k0_pay13 (F := F)) k

/-- The sums after `k` grid points. -/
def stateG (c : Dev nD) (k : ℕ) : Vec F S250x4x160 .f32 := iter (pointG m hr c) (k0_pay14 (F := F)) k

theorem coords_val : ∀ t : Fin cfg0.N, (grid0.coords t 0).val = t.val := by decide +kernel

theorem startF_first (t : Fin cfg0.N) (h : t.val = 0) (f : Vec F S250x160x256 .f32) :
    startF (grid0.coords t) f = k0_pay13 (F := F) := by
  unfold startF
  rw [coords_val, h]
  exact if_pos (by decide)

theorem startG_first (t : Fin cfg0.N) (h : t.val = 0) (g : Vec F S250x4x160 .f32) :
    startG (grid0.coords t) g = k0_pay14 (F := F) := by
  unfold startG
  rw [coords_val, h]
  exact if_pos (by decide)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => stateF m hr c (t.val + 1)
    | ⟨10, _⟩ => stateG m hr c (t.val + 1)
  Φ _ := Pipeline.ΦA spec0 c
  q _ := fullShare
  owed _ := 0

theorem A_eq (c : Dev nD) (w : Fin cfg0.W) : (dats m hr 0 c).A w = V m c (Pipeline.arrRef spec0 w) := rfl
theorem after0_0 (c : Dev nD) (t : Fin cfg0.N) : (dats m hr 0 c).after 0 t = iblk m c 0 t := by dsimp only [dats]
theorem after0_1 (c : Dev nD) (t : Fin cfg0.N) : (dats m hr 0 c).after 1 t = iblk m c 1 t := by dsimp only [dats]
theorem after0_2 (c : Dev nD) (t : Fin cfg0.N) : (dats m hr 0 c).after 2 t = iblk m c 2 t := by dsimp only [dats]
theorem after0_3 (c : Dev nD) (t : Fin cfg0.N) : (dats m hr 0 c).after 3 t = iblk m c 3 t := by dsimp only [dats]
theorem after0_4 (c : Dev nD) (t : Fin cfg0.N) : (dats m hr 0 c).after 4 t = iblk m c 4 t := by dsimp only [dats]
theorem after0_5 (c : Dev nD) (t : Fin cfg0.N) : (dats m hr 0 c).after 5 t = iblk m c 5 t := by dsimp only [dats]
theorem after0_6 (c : Dev nD) (t : Fin cfg0.N) : (dats m hr 0 c).after 6 t = iblk m c 6 t := by dsimp only [dats]
theorem after0_7 (c : Dev nD) (t : Fin cfg0.N) : (dats m hr 0 c).after 7 t = iblk m c 7 t := by dsimp only [dats]
theorem after0_8 (c : Dev nD) (t : Fin cfg0.N) : (dats m hr 0 c).after 8 t = iblk m c 8 t := by dsimp only [dats]
theorem after0_9 (c : Dev nD) (t : Fin cfg0.N) : (dats m hr 0 c).after 9 t = stateF m hr c (t.val + 1) := by dsimp only [dats]
theorem after0_10 (c : Dev nD) (t : Fin cfg0.N) : (dats m hr 0 c).after 10 t = stateG m hr c (t.val + 1) := by dsimp only [dats]

theorem before0_0 (c : Dev nD) (t : Fin cfg0.N) (d) : (dats m hr 0 c).before 0 t d = iblk m c 0 t :=
  before0_0_of m (dats m hr 0 c) (A_eq m hr c 0) (after0_0 m hr c) t d
theorem before0_1 (c : Dev nD) (t : Fin cfg0.N) (d) : (dats m hr 0 c).before 1 t d = iblk m c 1 t :=
  before0_1_of m (dats m hr 0 c) (A_eq m hr c 1) (after0_1 m hr c) t d
theorem before0_2 (c : Dev nD) (t : Fin cfg0.N) (d) : (dats m hr 0 c).before 2 t d = iblk m c 2 t :=
  before0_2_of m (dats m hr 0 c) (A_eq m hr c 2) (after0_2 m hr c) t d
theorem before0_3 (c : Dev nD) (t : Fin cfg0.N) (d) : (dats m hr 0 c).before 3 t d = iblk m c 3 t :=
  before0_3_of m (dats m hr 0 c) (A_eq m hr c 3) (after0_3 m hr c) t d
theorem before0_4 (c : Dev nD) (t : Fin cfg0.N) (d) : (dats m hr 0 c).before 4 t d = iblk m c 4 t :=
  before0_4_of m (dats m hr 0 c) (A_eq m hr c 4) (after0_4 m hr c) t d
theorem before0_5 (c : Dev nD) (t : Fin cfg0.N) (d) : (dats m hr 0 c).before 5 t d = iblk m c 5 t :=
  before0_5_of m (dats m hr 0 c) (A_eq m hr c 5) (after0_5 m hr c) t d
theorem before0_6 (c : Dev nD) (t : Fin cfg0.N) (d) : (dats m hr 0 c).before 6 t d = iblk m c 6 t :=
  before0_6_of m (dats m hr 0 c) (A_eq m hr c 6) (after0_6 m hr c) t d
theorem before0_7 (c : Dev nD) (t : Fin cfg0.N) (d) : (dats m hr 0 c).before 7 t d = iblk m c 7 t :=
  before0_7_of m (dats m hr 0 c) (A_eq m hr c 7) (after0_7 m hr c) t d
theorem before0_8 (c : Dev nD) (t : Fin cfg0.N) (d) : (dats m hr 0 c).before 8 t d = iblk m c 8 t :=
  before0_8_of m (dats m hr 0 c) (A_eq m hr c 8) (after0_8 m hr c) t d

/-- The maxima's buffer is written back after the last point only: until then a point finds what the one before left. -/
theorem kept0_9 (c : Dev nD) (t : Fin cfg0.N) (ht : t.val ≠ 0) (d) : (dats m hr 0 c).before 9 t d = stateF m hr c t.val := by
  have hl : t.val < 200 := t.isLt
  rw [(dats m hr 0 c).before_out_kept 9 rfl t ht
    (by rw [Bool.eq_false_iff, Ne, flush0_9]; show ¬((t.val - 1) % 200 = 199); omega) (fun _ => rfl) (fun _ _ => rfl) d, after0_9]
  show stateF m hr c (t.val - 1 + 1) = _
  rw [Nat.sub_add_cancel (Nat.pos_of_ne_zero ht)]

theorem kept0_10 (c : Dev nD) (t : Fin cfg0.N) (ht : t.val ≠ 0) (d) : (dats m hr 0 c).before 10 t d = stateG m hr c t.val := by
  have hl : t.val < 200 := t.isLt
  rw [(dats m hr 0 c).before_out_kept 10 rfl t ht
    (by rw [Bool.eq_false_iff, Ne, flush0_10]; show ¬((t.val - 1) % 200 = 199); omega) (fun _ => rfl) (fun _ _ => rfl) d, after0_10]
  show stateG m hr c (t.val - 1 + 1) = _
  rw [Nat.sub_add_cancel (Nat.pos_of_ne_zero ht)]

/-- Whatever a point finds, it leaves the state after it. -/
theorem next0_9 (c : Dev nD) (t : Fin cfg0.N) (d) : pointF m hr c t ((dats m hr 0 c).before 9 t d) = stateF m hr c (t.val + 1) := by
  unfold stateF
  rw [iter_succ]
  by_cases h : t.val = 0
  · unfold pointF; rw [startF_first t h, startF_first t h]
  · rw [kept0_9 m hr c t h d]; rfl

theorem next0_10 (c : Dev nD) (t : Fin cfg0.N) (d) : pointG m hr c t ((dats m hr 0 c).before 10 t d) = stateG m hr c (t.val + 1) := by
  unfold stateG
  rw [iter_succ]
  by_cases h : t.val = 0
  · unfold pointG; rw [startG_first t h, startG_first t h]
  · rw [kept0_10 m hr c t h d]; rfl

/-! ## The body obligation -/

theorem body_obligation (c : Dev nD) : BodyObligation (dats (F := F) m hr 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dats m hr 0 c).Φ t.succ = (dats m hr 0 c).Φ t.castSucc from rfl,
    show (dats m hr 0 c).owesAt () t.succ = (dats m hr 0 c).owesAt () t.castSucc from rfl, after0_0, after0_1, after0_2, after0_3,
    after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← next0_9 m hr c t d9, ← next0_10 m hr c t d10]
  iapply (body_run c Set.univ (grid0.coords t) _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) (chk2 _)
    (chk1 _ _ (lo_range m hr c t)) (chk3 _ _ _ (lo_range m hr c t) (hi_range m hr c t)) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The run and the frame -/

set_option backward.isDefEq.respectTransparency.types false in
/-- Every execution of the program ends, with the arrays at what the proof data say and every counter at zero. -/
theorem run_main : θ_run defs (onTc (τ := τ) (main (F := F))) (s₀ m ρ)
    (fun r => Pipeline.FramePost cfgs (dats m hr) 0 (Pipeline.afterTail₀ cfgs (dats m hr) 0 (V0 m) [hostOps1]) r ∧ r.2.sem = fun _ => 0) :=
  Pipeline.θ_run_frame_around (Q' := _) cfgs (dats m hr) (0 : Fin 1) launch0 defs₀ 𝒱₀ m ρ main
    (hbody := fun c => (body_obligation m hr c).loose) (hshare := fun c => (dats m hr 0 c).share_full fun _ => rfl)
    (howed := fun _ _ => rfl) (V₀ := V0 m) (opss := [hostOps1]) sfx_sub sfx_fresh sfx_keeps (hmain m 𝒱₀)
    (hA := fun _ _ => rfl) (hΦ := fun _ _ => rfl)

end Cert.Proof.KernelIdeal
-- ==== Proof.Frames.lean ====
/- The programs' frames: each runs to its end, leaves its arguments as they were and every counter at zero. -/
module

public import proofs.«01_k».proof.Proof.Pre
public import proofs.«01_k».proof.Proof.K.Run
public import proofs.«01_k».proof.Proof.KI.Run
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem

theorem kernel_ids {m : (ℓ : Loc Cert.Kernel.nD Cert.Kernel.τ Cert.Kernel.sig) → Buf (Elt Bits) ℓ} (h : Pre_Kernel m) :
    Cert.Proof.Kernel.IdsInRange m := fun c j => inRange_of_range _ _ _ _ _ _ _ (h c) (ix1 j)

theorem ideal_ids {m : (ℓ : Loc Cert.KernelIdeal.nD Cert.KernelIdeal.τ Cert.KernelIdeal.sig) → Buf (Elt Ideal) ℓ} (h : Pre_KernelIdeal m) :
    Cert.Proof.KernelIdeal.IdsInRange m := fun c j => inRange_of_range _ _ _ _ _ _ _ (h c) (ix1 j)

theorem sorted_ids {m : (ℓ : Loc Cert.KernelIdeal.nD Cert.KernelIdeal.τ Cert.KernelIdeal.sig) → Buf (Elt Ideal) ℓ}
    (h : Pre_KernelIdeal_ids_sorted_weights_finite m) :
    Cert.Proof.KernelIdeal.IdsInRange m := fun c j => inRange_of_sorted _ _ _ _ _ _ _ (h c).1 (ix1 j)

theorem frame_kernel : Cert.quiescent_Kernel (hKernel := Cert.Kernel.Gen.facts) := fun m ρ h =>
  θ_run_with_sems (Cert.Kernel.Gen.frame_of m ρ (Cert.Proof.Kernel.dats m (kernel_ids h)) fun _ _ => rfl)
    (Cert.Proof.Kernel.run_main (F := Bits) m ρ (kernel_ids h))

theorem frame_ideal : Cert.quiescent_KernelIdeal (hKernelIdeal := Cert.KernelIdeal.Gen.facts) := fun m ρ h =>
  θ_run_with_sems (Cert.KernelIdeal.Gen.frame_of m ρ (Cert.Proof.KernelIdeal.dats m (ideal_ids h)) fun _ _ => rfl)
    (Cert.Proof.KernelIdeal.run_main (F := Ideal) m ρ (ideal_ids h))

theorem frame_ideal_sorted : Cert.quiescent_KernelIdeal_pre_ids_sorted_weights_finite (hKernelIdeal := Cert.KernelIdeal.Gen.facts) :=
  fun m ρ h =>
  θ_run_with_sems (Cert.KernelIdeal.Gen.frame_of m ρ (Cert.Proof.KernelIdeal.dats m (sorted_ids h)) fun _ _ => rfl)
    (Cert.Proof.KernelIdeal.run_main (F := Ideal) m ρ (sorted_ids h))

theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_sorted :
    Cert.quiescent_ReferenceIdeal_pre_ids_sorted_weights_finite (hReferenceIdeal := Cert.ReferenceIdeal.Gen.facts) := fun m ρ _ =>
  frame_reference m ρ trivial

theorem preserves : Cert.preserves_Kernel_KernelIdeal :=
  ⟨IdealRules.named_const.statement Cert.KernelIdeal.κ "empty_mark" .f32 0xFF61B1E6#32 ⊥ rfl,
   IdealRules.named_const.statement Cert.KernelIdeal.κ "empty_mark" .bf16 0xFF62#16 ⊥ rfl,
   IdealRules.named_const.statement Cert.KernelIdeal.κ "empty_below" .f32 0xFCF0BDC2#32 ⊥ rfl⟩

end Cert.Proof
-- ==== Proof.Linear.lean ====
/- The layer on one row: the layer norm, as the kernel computes it and as it is usually written, and the linear map. -/
module

public import Idealize.ShloMosaic.PureOps.Ideal.Laws

@[expose] public section

noncomputable section

namespace Cert.Proof.Linear

open Idealize.ShloMosaic

/-- The constants: 128 and the small number added to the variance. -/
abbrev width : EReal := Ideal.ofBits .f32 0x43000000#32
abbrev small : EReal := Ideal.ofBits .f32 0x3727C5AC#32

def mean (x : Fin 128 → EReal) : EReal := Ideal.div (∑ k, x k) width
def variance (x : Fin 128 → EReal) : EReal := Ideal.div (∑ k, (x k - mean x) * (x k - mean x)) width

/-- The layer norm with the reciprocal of the root as a factor. -/
def byFactor (x g b : Fin 128 → EReal) (k : Fin 128) : EReal := (x k - mean x) * Ideal.rsqrt (variance x + small) * g k + b k

/-- The layer norm with a division by the root. -/
def byQuotient (x g b : Fin 128 → EReal) (k : Fin 128) : EReal := Ideal.div (x k - mean x) (Ideal.sqrt (variance x + small)) * g k + b k

/-- The linear map. -/
def linear (y : Fin 128 → EReal) (w : Fin 128 → Fin 256 → EReal) (b : Fin 256 → EReal) (l : Fin 256) : EReal := ∑ k, y k * w k l + b l

/-! ## The two layer norms agree -/

theorem width_eq : width = ((128 : ℝ) : EReal) := by
  have he : (1124073472 >>> 23 % 256 : ℕ) = 134 := by decide
  have hn : BitVec.extractLsb' 31 1 1124073472#32 ≠ 1#1 := by decide
  unfold width
  norm_num [Ideal.ofBits, Ideal.ieee, he, hn]

theorem small_eq : ∃ r : ℝ, 0 < r ∧ small = r := by
  have he : (925353388 >>> 23 % 256 : ℕ) = 110 := by decide
  have hn : BitVec.extractLsb' 31 1 925353388#32 ≠ 1#1 := by decide
  refine ⟨_, ?_, rfl⟩
  norm_num [Ideal.ofBits, Ideal.ieee, he, hn]

theorem sq_nonneg (a : EReal) : 0 ≤ a * a := by
  induction a using EReal.rec with
  | bot => simp
  | coe r => rw [← EReal.coe_mul]; exact_mod_cast mul_self_nonneg r
  | top => simp

theorem div_width (a : EReal) : Ideal.div a width = a * ((128⁻¹ : ℝ) : EReal) := by
  unfold Ideal.div
  rw [width_eq, if_neg (by norm_num), EReal.coe_inv]

theorem variance_nonneg (x : Fin 128 → EReal) : 0 ≤ variance x := by
  unfold variance
  rw [div_width]
  exact mul_nonneg (Finset.sum_nonneg fun k _ => sq_nonneg _) (by exact_mod_cast (by norm_num : (0 : ℝ) ≤ 128⁻¹))

/-- The variance is infinite, or it is a real number and so is every element's distance to the mean. -/
theorem variance_cases (x : Fin 128 → EReal) :
    variance x = ⊤ ∨ (∃ v : ℝ, 0 ≤ v ∧ variance x = v) ∧ ∀ k, ∃ r : ℝ, x k - mean x = r := by
  have h0 := variance_nonneg x
  by_cases ht : variance x = ⊤
  · exact .inl ht
  · refine .inr ⟨?_, fun k => ?_⟩
    · generalize variance x = v at h0 ht
      induction v using EReal.rec with
      | bot => simp at h0
      | coe r => exact ⟨r, by exact_mod_cast h0, rfl⟩
      | top => exact absurd rfl ht
    · by_contra hk
      apply ht
      have hs : (x k - mean x) * (x k - mean x) = ⊤ := by
        generalize x k - mean x = a at hk
        induction a using EReal.rec with
        | bot => simp
        | coe r => exact absurd ⟨r, rfl⟩ hk
        | top => simp
      have hsum : ∑ k, (x k - mean x) * (x k - mean x) = ⊤ := top_le_iff.mp <|
        hs.symm.le.trans (Finset.single_le_sum (f := fun k => (x k - mean x) * (x k - mean x)) (fun i _ => sq_nonneg _) (Finset.mem_univ k))
      unfold variance
      rw [hsum, div_width, EReal.top_mul_coe_of_pos (by norm_num)]

theorem sqrt_pos (r : ℝ) (hr : 0 < r) : Ideal.sqrt (r : EReal) = ((Real.sqrt r : ℝ) : EReal) := if_neg (not_lt.mpr hr.le)

theorem rsqrt_pos (r : ℝ) (hr : 0 < r) : Ideal.rsqrt (r : EReal) = (((Real.sqrt r)⁻¹ : ℝ) : EReal) :=
  (if_neg (not_lt.mpr hr.le)).trans (if_neg hr.ne')

theorem sqrt_top : Ideal.sqrt ⊤ = ⊤ := rfl

theorem rsqrt_top : Ideal.rsqrt ⊤ = 0 := rfl

/-- Dividing by a root is multiplying by one over it, also at infinity. -/
theorem div_sqrt (y v : EReal) (hv : 0 < v) : Ideal.div y (Ideal.sqrt v) = y * Ideal.rsqrt v := by
  induction v using EReal.rec with
  | bot => simp at hv
  | coe r =>
    have hr : 0 < r := by exact_mod_cast hv
    have hs : Real.sqrt r ≠ 0 := (Real.sqrt_pos.mpr hr).ne'
    rw [sqrt_pos r hr, rsqrt_pos r hr]
    unfold Ideal.div
    rw [if_neg (by exact_mod_cast hs), EReal.coe_inv]
  | top => simp [sqrt_top, rsqrt_top, Ideal.div]

theorem root_pos (x : Fin 128 → EReal) : 0 < variance x + small := by
  obtain ⟨r, hr, e⟩ := small_eq
  rw [e]
  exact lt_of_lt_of_le (show (0 : EReal) < (r : EReal) by exact_mod_cast hr) (le_add_of_nonneg_left (variance_nonneg x))

/-- Dividing by the root of the variance and multiplying by one over it come to the same, whatever the row. -/
theorem byQuotient_eq (x g b : Fin 128 → EReal) : byQuotient x g b = byFactor x g b :=
  funext fun k => by unfold byQuotient byFactor; rw [div_sqrt _ _ (root_pos x)]

/-! ## Finite parameters give finite products -/

/-- A real number. -/
def IsReal (a : EReal) : Prop := ∃ r : ℝ, a = r

theorem IsReal.add {a b : EReal} : IsReal a → IsReal b → IsReal (a + b) := fun ⟨r, hr⟩ ⟨s, hs⟩ => ⟨r + s, by rw [hr, hs, EReal.coe_add]⟩
theorem IsReal.mul {a b : EReal} : IsReal a → IsReal b → IsReal (a * b) := fun ⟨r, hr⟩ ⟨s, hs⟩ => ⟨r * s, by rw [hr, hs, EReal.coe_mul]⟩

/-- With a real scale and shift every normed element is real: a row of infinite variance is scaled by zero. -/
theorem byFactor_real (x g b : Fin 128 → EReal) (k : Fin 128) (hg : IsReal (g k)) (hb : IsReal (b k)) : IsReal (byFactor x g b k) := by
  obtain ⟨e, he, hs⟩ := small_eq
  refine .add (.mul ?_ hg) hb
  rcases variance_cases x with h | ⟨⟨v, hv, h⟩, hk⟩
  · refine ⟨0, ?_⟩
    rw [h, hs, EReal.top_add_coe]
    simp [rsqrt_top]
  · refine .mul (hk k) ⟨(Real.sqrt (v + e))⁻¹, ?_⟩
    have hp : 0 < v + e := by linarith
    rw [h, hs, ← EReal.coe_add, rsqrt_pos _ hp]

/-- With real weights and bias the product of a real row is real. -/
theorem linear_real (y : Fin 128 → EReal) (w : Fin 128 → Fin 256 → EReal) (b : Fin 256 → EReal) (l : Fin 256)
    (hy : ∀ k, IsReal (y k)) (hw : ∀ k, IsReal (w k l)) (hb : IsReal (b l)) : IsReal (linear y w b l) :=
  .add (Finset.sum_induction _ IsReal (fun _ _ => IsReal.add) ⟨0, rfl⟩ fun k _ => (hy k).mul (hw k)) hb

end Cert.Proof.Linear
-- ==== Proof.Scatter.lean ====
/- A host scatter that adds rows: every row of the updates is added to the row of the operand that its index
   names. Read at one element, that is the sum of the rows whose index is the element's row. -/
module

public import Idealize.ShloMosaic.Lib.Pointwise
public import Idealize.ShloMosaic.Lib.Routing.OpsPair

@[expose] public section

noncomputable section

namespace Cert.Proof

open Idealize.ShloMosaic

/-- The scatter of rows, at one element. -/
theorem scatter_rows {S N w : ℕ} (d : ScatterDims ⟨2, ![S, w]⟩ ⟨2, ![N, 1]⟩ ⟨2, ![N, w]⟩) (idx : IVec ⟨2, ![N, 1]⟩ 32)
    (hs0 : ∀ n q, d.start (ix2 n q) idx (0 : Fin 2) = (idx (ix2 n 0)).toInt) (hs1 : ∀ n q, d.start (ix2 n q) idx (1 : Fin 2) = 0)
    (hw0 : ∀ n q, d.window (ix2 n q) (0 : Fin 2) = 0) (hw1 : ∀ n (q : Fin w), d.window (ix2 n q) (1 : Fin 2) = q.val)
    (x : Shape.Idx ⟨2, ![S, w]⟩ → EReal) (upd : Shape.Idx ⟨2, ![N, w]⟩ → EReal) (s : Fin S) (q : Fin w) :
    Ideal.hostScatterAdd d x idx upd (ix2 s q) = x (ix2 s q) + ∑ n, if (idx (ix2 n 0)).toInt = (s.val : ℤ) then upd (ix2 n q) else 0 := by
  unfold Ideal.hostScatterAdd
  congr 1
  have land : ∀ n (p : Fin w), d.resultIdx? (ix2 n p) idx = some (ix2 s q) ↔ (idx (ix2 n 0)).toInt = (s.val : ℤ) ∧ p = q := by
    intro n p
    rw [Routing.resultIdx?_eq_some]
    constructor
    · intro h
      have h0 := h 0
      have h1 := h 1
      rw [hs0, hw0] at h0
      rw [hs1, hw1] at h1
      refine ⟨by simpa using h0, Fin.ext (by simpa using h1)⟩
    · rintro ⟨h0, rfl⟩ a
      match a with
      | ⟨0, _⟩ => exact (congrArg₂ (· + ·) (hs0 n p) (congrArg Nat.cast (hw0 n p))).trans (by simpa using h0)
      | ⟨1, _⟩ => exact (congrArg₂ (· + ·) (hs1 n p) (congrArg Nat.cast (hw1 n p))).trans (by simp)
  rw [Finset.sum_filter, sum_idx2]
  refine Finset.sum_congr rfl fun n _ => ?_
  simp only [land]
  by_cases h : (idx (ix2 n 0)).toInt = (s.val : ℤ)
  · simp [h]
  · simp [h]

end Cert.Proof
-- ==== Proof.KI.Blocks.lean ====
/- What a grid point reads of the features, the coordinates and the layer's parameters. -/
module

public import proofs.«01_k».proof.Proof.KI.Host
public import proofs.«01_k».proof.Proof.KI.Body
public import Idealize.ShloMosaic.PureOps.Ideal.Laws

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ)

/-- The arguments as launched. -/
abbrev featsArg (c : Dev nD) : FVec Ideal S320000x128 .f32 := m ((c : Thread nD τ).loc main_arg0)
abbrev coordsArg (c : Dev nD) : FVec Ideal S320000x3 .f32 := m ((c : Thread nD τ).loc main_arg1)
abbrev gammaArg (c : Dev nD) : FVec Ideal S128 .f32 := m ((c : Thread nD τ).loc main_arg3)
abbrev betaArg (c : Dev nD) : FVec Ideal S128 .f32 := m ((c : Thread nD τ).loc main_arg4)
abbrev weightArg (c : Dev nD) : FVec Ideal S128x256 .f32 := m ((c : Thread nD τ).loc main_arg5)
abbrev biasArg (c : Dev nD) : FVec Ideal S256 .f32 := m ((c : Thread nD τ).loc main_arg6)

theorem block1 : ∀ t : Fin cfg0.N, win0_1.index t = ![t.val, 0] := by decide +kernel
theorem block2 : ∀ t : Fin cfg0.N, win0_2.index t = ![t.val, 0, 0] := by decide +kernel
theorem block3 : ∀ t : Fin cfg0.N, win0_3.index t = ![t.val, 0] := by decide +kernel
theorem block5 : ∀ t : Fin cfg0.N, win0_5.index t = ![0, 0] := by decide +kernel
theorem block6 : ∀ t : Fin cfg0.N, win0_6.index t = ![0, 0] := by decide +kernel
theorem block7 : ∀ t : Fin cfg0.N, win0_7.index t = ![0, 0] := by decide +kernel
theorem block8 : ∀ t : Fin cfg0.N, win0_8.index t = ![0, 0] := by decide +kernel

theorem V_feats (c : Dev nD) (j : Fin 320000) (k : Fin 128) : V m c main_arg0 (ix2 j k) = featsArg m c (ix2 j k) := by
  dsimp only [V, V0, featsArg]
  after_reads_at

theorem V_gamma (c : Dev nD) (k : Fin 128) : V m c main_v88 (ix2 0 k) = gammaArg m c (ix1 k) := by
  dsimp only [V, V0, gammaArg]
  after_reads_at

theorem V_beta (c : Dev nD) (k : Fin 128) : V m c main_v89 (ix2 0 k) = betaArg m c (ix1 k) := by
  dsimp only [V, V0, betaArg]
  after_reads_at

theorem V_weight (c : Dev nD) (k : Fin 128) (l : Fin 256) : V m c main_v90 (ix2 k l) = weightArg m c (ix2 k l) := by
  dsimp only [V, V0, weightArg]
  after_reads_at

theorem V_bias (c : Dev nD) (l : Fin 256) : V m c main_v91 (ix2 0 l) = biasArg m c (ix1 l) := by
  dsimp only [V, V0, biasArg]
  after_reads_at

theorem V_aug_one (c : Dev nD) (t : Fin 200) (j : Fin 1600) : V m c main_v87 (ix3 t 3 j) = (1 : EReal) := by
  dsimp only [V, V0]
  after_reads_at
  after_reads_at

theorem V_aug (c : Dev nD) (t : Fin 200) (q : Fin 3) (j : Fin 1600) :
    V m c main_v87 (ix3 t ⟨q, by omega⟩ j) = coordsArg m c (ix2 ⟨t * 1600 + j, by omega⟩ q) := by
  dsimp only [V, V0, coordsArg]
  after_reads_at
  after_reads_at

theorem feats_block (c : Dev nD) (t : Fin cfg0.N) (j : Fin 1600) (k : Fin 128) :
    iblk m c 1 t (ix2 j k) = featsArg m c (ix2 ⟨t.val * 1600 + j, by have : t.val < 200 := t.isLt; omega⟩ k) := by
  rw [← V_feats m c ⟨t.val * 1600 + j, by have : t.val < 200 := t.isLt; omega⟩ k]
  blk_ext [iblk, block1 t]

theorem aug_block_one (c : Dev nD) (t : Fin cfg0.N) (j : Fin 1600) : iblk m c 2 t (ix3 0 3 j) = (1 : EReal) := by
  rw [← V_aug_one m c ⟨t.val, t.isLt⟩ j]
  blk_ext [iblk, block2 t]

theorem aug_block (c : Dev nD) (t : Fin cfg0.N) (q : Fin 3) (j : Fin 1600) :
    iblk m c 2 t (ix3 0 ⟨q, by omega⟩ j) = coordsArg m c (ix2 ⟨t.val * 1600 + j, by have : t.val < 200 := t.isLt; omega⟩ q) := by
  rw [← V_aug m c ⟨t.val, t.isLt⟩ q j]
  blk_ext [iblk, block2 t]

theorem gamma_block (c : Dev nD) (t : Fin cfg0.N) (k : Fin 128) : iblk m c 5 t (ix2 0 k) = gammaArg m c (ix1 k) := by
  rw [← V_gamma m c k]
  blk_ext [iblk, block5 t]

theorem beta_block (c : Dev nD) (t : Fin cfg0.N) (k : Fin 128) : iblk m c 6 t (ix2 0 k) = betaArg m c (ix1 k) := by
  rw [← V_beta m c k]
  blk_ext [iblk, block6 t]

theorem weight_block (c : Dev nD) (t : Fin cfg0.N) (k : Fin 128) (l : Fin 256) : iblk m c 7 t (ix2 k l) = weightArg m c (ix2 k l) := by
  rw [← V_weight m c k l]
  blk_ext [iblk, block7 t]

theorem bias_block (c : Dev nD) (t : Fin cfg0.N) (l : Fin 256) : iblk m c 8 t (ix2 0 l) = biasArg m c (ix1 l) := by
  rw [← V_bias m c l]
  blk_ext [iblk, block8 t]

end Cert.Proof.KernelIdeal
-- ==== Proof.Runs.lean ====
/- Runs of equal numbers in a sorted list: the place of a row in its run, and maxima gathered along a run. -/
module

public import Idealize.ShloMosaic.PureOps.Ideal.Laws
public import Mathlib.Order.Interval.Finset.Fin

@[expose] public section

namespace Cert.Proof.Runs

variable {n : ℕ} (d : Fin n → ℤ)

/-- The rows of `j`'s run among the `k` rows that end with `j`. -/
def before (k : ℕ) (j : Fin n) : Finset (Fin n) := Finset.univ.filter fun i => i ≤ j ∧ j.val < i.val + k ∧ d i = d j

/-- How many rows of `j`'s run come before `j`. -/
def place (j : Fin n) : ℕ := (Finset.univ.filter fun i : Fin n => i < j ∧ d i = d j).card

/-- How many rows carry the number `s`. -/
def count (s : ℤ) : ℕ := (Finset.univ.filter fun i : Fin n => d i = s).card

/-- `w` is the largest of the values `l i` over the rows `i` that satisfy `P` (and ⊥ if there are none). -/
def Top (l : Fin n → EReal) (P : Fin n → Prop) (w : EReal) : Prop := ∀ u, w ≤ u ↔ ∀ i, P i → l i ≤ u

theorem before_one (j : Fin n) : (before d 1 j).card = 1 := by
  rw [Finset.card_eq_one]
  refine ⟨j, ?_⟩
  ext i
  simp only [before, Finset.mem_filter, Finset.mem_univ, true_and, Finset.mem_singleton]
  constructor
  · rintro ⟨h, h', _⟩; apply Fin.ext; have := Fin.le_def.mp h; omega
  · rintro rfl; exact ⟨le_refl _, by omega, rfl⟩

variable {d} (hd : Monotone d)
include hd

theorem between {i j k : Fin n} (h : i ≤ j) (h' : j ≤ k) (e : d i = d k) : d j = d k :=
  le_antisymm (hd h') (e ▸ hd h)

theorem before_double (k : ℕ) (j : Fin n) :
    (before d (k + k) j).card = (before d k j).card +
      if h : k ≤ j.val ∧ d ⟨j.val - k, by omega⟩ = d j then (before d k ⟨j.val - k, by omega⟩).card else 0 := by
  split
  · rename_i h
    rw [← Finset.card_union_of_disjoint]
    · congr 1
      ext i
      simp only [before, Finset.mem_filter, Finset.mem_univ, true_and, Finset.mem_union, Fin.le_def]
      constructor
      · rintro ⟨a, b, c⟩
        by_cases hk : j.val < i.val + k
        · exact .inl ⟨a, hk, c⟩
        · exact .inr ⟨by omega, by omega, c.trans h.2.symm⟩
      · rintro (⟨a, b, c⟩ | ⟨a, b, c⟩)
        · exact ⟨a, by omega, c⟩
        · exact ⟨by omega, by omega, c.trans h.2⟩
    · rw [Finset.disjoint_left]
      intro i hi hi'
      simp only [before, Finset.mem_filter, Finset.mem_univ, true_and, Fin.le_def] at hi hi'
      omega
  · rename_i h
    rw [add_zero]
    congr 1
    ext i
    simp only [before, Finset.mem_filter, Finset.mem_univ, true_and, Fin.le_def]
    constructor
    · rintro ⟨a, b, c⟩
      refine ⟨a, ?_, c⟩
      by_contra hk
      exact h ⟨by omega, between hd (i := i) (by simp only [Fin.le_def]; omega) (by simp only [Fin.le_def]; omega) c⟩
    · rintro ⟨a, b, c⟩; exact ⟨a, by omega, c⟩

omit hd in
theorem before_all (k : ℕ) (hk : n ≤ k) (j : Fin n) : (before d k j).card = place d j + 1 := by
  have e : before d k j = insert j (Finset.univ.filter fun i : Fin n => i < j ∧ d i = d j) := by
    ext i
    simp only [before, Finset.mem_filter, Finset.mem_univ, true_and, Finset.mem_insert, Fin.le_def, Fin.lt_def, Fin.ext_iff]
    constructor
    · rintro ⟨a, b, c⟩
      by_cases h : i.val = j.val
      · exact .inl h
      · exact .inr ⟨by omega, c⟩
    · rintro (h | ⟨a, c⟩)
      · have : i = j := Fin.ext h
        subst this; exact ⟨le_refl _, by omega, rfl⟩
      · exact ⟨by omega, by omega, c⟩
  rw [e, Finset.card_insert_of_notMem (by simp), place]

omit hd in
theorem before_le (k : ℕ) (j : Fin n) : (before d k j).card ≤ n :=
  (Finset.card_le_univ _).trans (by simp)

omit hd in
theorem place_lt_count (j : Fin n) : place d j < count d (d j) := by
  apply Finset.card_lt_card
  rw [Finset.ssubset_iff_of_subset]
  · exact ⟨j, by simp, by simp⟩
  · intro i; simp +contextual

omit hd in
theorem place_lt (j : Fin n) : place d j < n := by
  have := place_lt_count (d := d) j
  exact this.trans_le ((Finset.card_le_univ _).trans (by simp))

theorem place_add {i j : Fin n} (h : i ≤ j) (e : d i = d j) : place d j = place d i + (j.val - i.val) := by
  rw [place, place, ← Fin.card_Ico i j, ← Finset.card_union_of_disjoint]
  · congr 1
    ext q
    simp only [Finset.mem_filter, Finset.mem_univ, true_and, Finset.mem_union, Finset.mem_Ico]
    constructor
    · rintro ⟨a, c⟩
      rcases lt_or_ge q i with hq | hq
      · exact .inl ⟨hq, c.trans e.symm⟩
      · exact .inr ⟨hq, a⟩
    · rintro (⟨a, c⟩ | ⟨a, b⟩)
      · exact ⟨a.trans_le h, c.trans e⟩
      · exact ⟨b, between hd a b.le e⟩
  · rw [Finset.disjoint_left]
    intro q hq hq'
    simp only [Finset.mem_filter, Finset.mem_univ, true_and, Finset.mem_Ico] at hq hq'
    exact absurd hq.1 (not_lt.mpr hq'.1)

theorem place_strict {i j : Fin n} (e : d i = d j) (e' : place d i = place d j) : i = j := by
  rcases le_total i j with h | h
  · have := place_add hd h e; apply Fin.ext; have := Fin.le_def.mp h; omega
  · have := place_add hd h e.symm; apply Fin.ext; have := Fin.le_def.mp h; omega

theorem exists_place (s : ℤ) (q : ℕ) (h : q < count d s) : ∃ j, d j = s ∧ place d j = q := by
  have hne : (Finset.univ.filter fun i : Fin n => d i = s).Nonempty := Finset.card_pos.mp (by unfold count at h; omega)
  set S := Finset.univ.filter fun i : Fin n => d i = s with hS
  have memS : ∀ i, i ∈ S ↔ d i = s := fun i => by simp [hS]
  have hf := (memS _).mp (S.min'_mem hne)
  have hl := (memS _).mp (S.max'_mem hne)
  have hfl : S.min' hne ≤ S.max' hne := S.min'_le _ (S.max'_mem hne)
  have p0 : place d (S.min' hne) = 0 := by
    rw [place, Finset.card_eq_zero, Finset.filter_eq_empty_iff]
    rintro i _ ⟨a, b⟩
    exact absurd (S.min'_le i ((memS i).mpr (b.trans hf))) (not_le.mpr a)
  have pl := place_add hd hfl (hf.trans hl.symm)
  have hc : count d s = place d (S.max' hne) + 1 := by
    have e : S = insert (S.max' hne) (Finset.univ.filter fun i : Fin n => i < S.max' hne ∧ d i = d (S.max' hne)) := by
      ext i
      rw [memS, Finset.mem_insert, Finset.mem_filter]
      constructor
      · intro hi
        rcases (S.le_max' i ((memS i).mpr hi)).lt_or_eq with a | a
        · exact .inr ⟨Finset.mem_univ _, a, hi.trans hl.symm⟩
        · exact .inl a
      · rintro (a | ⟨_, _, a⟩)
        · rw [a, hl]
        · exact a.trans hl
    exact (congrArg Finset.card e).trans (Finset.card_insert_of_notMem (by simp))
  have hq : (S.min' hne).val + q ≤ (S.max' hne).val := by
    have := Fin.le_def.mp hfl; omega
  refine ⟨⟨(S.min' hne).val + q, by omega⟩, ?_, ?_⟩
  · exact (between hd (i := S.min' hne) (k := S.max' hne) (by simp [Fin.le_def]) (by simp only [Fin.le_def]; omega) (hf.trans hl.symm)).trans hl
  · rw [place_add hd (i := S.min' hne) (by simp [Fin.le_def]) (hf.trans
      ((between hd (i := S.min' hne) (k := S.max' hne) (by simp [Fin.le_def]) (by simp only [Fin.le_def]; omega) (hf.trans hl.symm)).trans hl).symm), p0]
    simp

variable {l : Fin n → EReal}

/-- The rows of `j`'s run among the `k` rows that begin with `j`. -/
def After (d : Fin n → ℤ) (k : ℕ) (j i : Fin n) : Prop := j ≤ i ∧ i.val < j.val + k ∧ d i = d j

omit hd in
theorem after_one (j : Fin n) : Top l (After d 1 j) (l j) := fun u =>
  ⟨fun h i hi => by
    have : i = j := by apply Fin.ext; have := hi.1; have := hi.2.1; simp only [Fin.le_def] at *; omega
    rw [this]; exact h,
   fun h => h j ⟨le_refl _, by omega, rfl⟩⟩

theorem after_double (k : ℕ) (w : Fin n → EReal) (hw : ∀ j, Top l (After d k j) (w j)) (j : Fin n) (w' : EReal)
    (hsame : ∀ h : j.val + k < n, d ⟨j.val + k, h⟩ = d j → w' = max (w j) (w ⟨j.val + k, h⟩))
    (helse : (∀ h : j.val + k < n, d ⟨j.val + k, h⟩ ≠ d j) → w' = w j) : Top l (After d (k + k) j) w' := fun u => by
  by_cases hj : ∃ h : j.val + k < n, d ⟨j.val + k, h⟩ = d j
  · obtain ⟨h, e⟩ := hj
    rw [hsame h e, max_le_iff, hw, hw]
    constructor
    · rintro ⟨a, b⟩ i ⟨p, q, r⟩
      by_cases hk : i.val < j.val + k
      · exact a i ⟨p, hk, r⟩
      · exact b i ⟨by simp only [Fin.le_def]; omega, by simp only; omega, r.trans e.symm⟩
    · intro a
      refine ⟨fun i ⟨p, q, r⟩ => a i ⟨p, by omega, r⟩, fun i ⟨p, q, r⟩ => a i ⟨?_, ?_, r.trans e⟩⟩
      · simp only [Fin.le_def] at p ⊢; omega
      · simp only at q; omega
  · push Not at hj
    rw [helse hj, hw]
    constructor
    · rintro a i ⟨p, q, r⟩
      refine a i ⟨p, ?_, r⟩
      by_contra hk
      have h : j.val + k < n := by omega
      exact hj h ((between hd (j := ⟨j.val + k, h⟩) (i := j) (k := i) (by simp [Fin.le_def]) (by simp only [Fin.le_def]; omega) r.symm).trans r)
    · rintro a i ⟨p, q, r⟩; exact a i ⟨p, by omega, r⟩

/-- One phase: the maximum of a number's rows whose place is below `q`, extended by the next `k` places. -/
theorem phase_step (k : ℕ) (v : Fin n → EReal) (hv : ∀ j, Top l (After d k j) (v j)) (s : ℤ) (q : ℕ) (f0 f f' : EReal)
    (hf : ∀ u, f ≤ u ↔ f0 ≤ u ∧ ∀ i, d i = s → place d i < q → l i ≤ u)
    (hf' : f' = if q < count d s then max f (∑ j, if place d j = q ∧ d j = s then v j else 0) else f) :
    ∀ u, f' ≤ u ↔ f0 ≤ u ∧ ∀ i, d i = s → place d i < q + k → l i ≤ u := by
  intro u
  by_cases hq : q < count d s
  · obtain ⟨j, hj, hp⟩ := exists_place hd s q hq
    rw [if_pos hq, Finset.sum_eq_single j (fun i _ hi => if_neg fun h => hi (place_strict hd (h.2.trans hj.symm) (h.1.trans hp.symm)))
      (fun h => absurd (Finset.mem_univ j) h), if_pos ⟨hp, hj⟩] at hf'
    rw [hf', max_le_iff, hf, hv, and_assoc]
    refine and_congr_right fun _ => ⟨fun ⟨a, b⟩ i hi hl => ?_, fun a => ⟨fun i hi hl => a i hi (by omega), fun i ⟨x, y, z⟩ => ?_⟩⟩
    · by_cases hlt : place d i < q
      · exact a i hi hlt
      · have hji : j ≤ i := by
          by_contra hc
          have := place_add hd (le_of_not_ge hc) (hi.trans hj.symm)
          have := Fin.lt_def.mp (not_le.mp hc)
          omega
        have := place_add hd hji (hj.trans hi.symm)
        exact b i ⟨hji, by have := Fin.le_def.mp hji; omega, hi.trans hj.symm⟩
    · have := place_add hd x z.symm
      exact a i (z.trans hj) (by omega)
  · rw [if_neg hq] at hf'
    rw [hf', hf]
    refine and_congr_right fun _ => ⟨fun a i hi _ => a i hi ?_, fun a i hi hl => a i hi (by omega)⟩
    have := place_lt_count (d := d) i
    rw [hi] at this
    omega

end Cert.Proof.Runs
-- ==== Proof.KI.Place.lean ====
/- Each row's place in its run, which the kernel counts by doubling. -/
module

public import proofs.«01_k».proof.Proof.KI.Body
public import proofs.«01_k».proof.Proof.Runs
public import proofs.«01_k».proof.Proof.Word
public import Idealize.ShloMosaic.Lib.Pointwise

@[expose] public section

set_option maxRecDepth 16384

noncomputable section

namespace Cert.Proof.KernelIdeal

open Cert.KernelIdeal Cert.KernelIdeal.Gen
open Idealize.ShloMosaic

/-- A row of `k` lanes. -/
abbrev row (k : ℕ) : Shape := ⟨2, ![1, k]⟩

/-- One doubling: what lies `k` rows back is added where the numbers agree. -/
def doubleI (k m : ℕ) (hs : (row 1600).Slices ![0, 0] (row m)) (hc : Shape.Concatenates [row k, row m] (row 1600) 1)
    (d x : IVec (row 1600) 32) : IVec (row 1600) 32 :=
  addi x (select (cmpi .eq d (concatenate (row 1600) 1 [⟨row k, broadcast (row k) 4294967295#32⟩, ⟨row m, extractStridedSlice (row m) ![0, 0] d hs⟩] hc))
    (concatenate (row 1600) 1 [⟨row k, broadcast (row k) 0#32⟩, ⟨row m, extractStridedSlice (row m) ![0, 0] x hs⟩] hc)
    (broadcast (row 1600) 0#32))

theorem doubleI_apply (k m : ℕ) (hs) (hc) (d x : IVec (row 1600) 32) (j : Fin 1600) (hkm : k + m = 1600) (hd : ∀ j, InRange (d (ix2 0 j))) :
    doubleI k m hs hc d x (ix2 0 j) = x (ix2 0 j) + if h : k ≤ j.val ∧ (d (ix2 0 ⟨j.val - k, by omega⟩)).toInt = (d (ix2 0 j)).toInt
      then x (ix2 0 ⟨j.val - k, by omega⟩) else 0#32 := by
  unfold doubleI
  pointwise
  by_cases hj : j.val < k
  · rw [dif_pos hj, dif_pos hj, dif_neg (fun h : k ≤ j.val ∧ _ => absurd h.1 (not_le.mpr hj))]
    show IntOp.addi _ _ = IntOp.addi _ _
    congr 1
    simp only [Scalar.select]
    exact ite_self _
  · rw [dif_neg hj, dif_neg hj]
    show IntOp.addi _ (Scalar.select (IntOp.cmpi CmpIPredicate.eq (d (ix2 0 j)) (d (ix2 0 ⟨j.val - k, by omega⟩)))
      (x (ix2 0 ⟨j.val - k, by omega⟩)) 0#32) = IntOp.addi _ _
    congr 1
    by_cases e : d (ix2 0 j) = d (ix2 0 ⟨j.val - k, by omega⟩)
    · rw [dif_pos ⟨by omega, by rw [e]⟩]
      simp [Scalar.select, IntOp.cmpi, e]
    · rw [dif_neg (fun h => e (BitVec.eq_of_toInt_eq h.2.symm))]
      simp [Scalar.select, IntOp.cmpi, beq_eq_false_iff_ne.mpr e]

theorem placeOf_eq (x5 : Vec Ideal S1x1x1600 .i32) : placeOf (F := Ideal) x5 =
    subi (doubleI 1024 576 slices_S1x1600_o0_0_S1x576 concatenates_S1x1024_S1x576_S1x1600_d1 (idsOf (F := Ideal) x5)
    (doubleI 512 1088 slices_S1x1600_o0_0_S1x1088 concatenates_S1x512_S1x1088_S1x1600_d1 (idsOf (F := Ideal) x5)
    (doubleI 256 1344 slices_S1x1600_o0_0_S1x1344 concatenates_S1x256_S1x1344_S1x1600_d1 (idsOf (F := Ideal) x5)
    (doubleI 128 1472 slices_S1x1600_o0_0_S1x1472 concatenates_S1x128_S1x1472_S1x1600_d1 (idsOf (F := Ideal) x5)
    (doubleI 64 1536 slices_S1x1600_o0_0_S1x1536 concatenates_S1x64_S1x1536_S1x1600_d1 (idsOf (F := Ideal) x5)
    (doubleI 32 1568 slices_S1x1600_o0_0_S1x1568 concatenates_S1x32_S1x1568_S1x1600_d1 (idsOf (F := Ideal) x5)
    (doubleI 16 1584 slices_S1x1600_o0_0_S1x1584 concatenates_S1x16_S1x1584_S1x1600_d1 (idsOf (F := Ideal) x5)
    (doubleI 8 1592 slices_S1x1600_o0_0_S1x1592 concatenates_S1x8_S1x1592_S1x1600_d1 (idsOf (F := Ideal) x5)
    (doubleI 4 1596 slices_S1x1600_o0_0_S1x1596 concatenates_S1x4_S1x1596_S1x1600_d1 (idsOf (F := Ideal) x5)
    (doubleI 2 1598 slices_S1x1600_o0_0_S1x1598 concatenates_S1x2_S1x1598_S1x1600_d1 (idsOf (F := Ideal) x5)
    (doubleI 1 1599 slices_S1x1600_o0_0_S1x1599 concatenates_S1x1_S1x1599_S1x1600_d1 (idsOf (F := Ideal) x5)
      (broadcast S1x1600 1#32)))))))))))) (broadcast S1x1600 1#32) := by
  rfl

theorem max_ofNat (a b : ℕ) (ha : a < 1600) (hb : b < 1600) :
    IntOp.maxsi (BitVec.ofNat 32 a) (BitVec.ofNat 32 b) = BitVec.ofNat 32 (max a b) := by
  have e : ∀ n < 1600, (BitVec.ofNat 32 n).toInt = n := fun n hn => by
    rw [BitVec.toInt_eq_toNat_cond, BitVec.toNat_ofNat]; omega
  rcases le_total a b with h | h
  · rw [max_eq_right h]
    by_cases hab : a = b
    · subst hab; simp [IntOp.maxsi]
    · simp only [IntOp.maxsi, BitVec.slt_eq_decide, e a ha, e b hb]; split <;> rename_i hh <;> simp at hh <;> first | rfl | omega
  · rw [max_eq_left h]
    by_cases hab : a = b
    · subst hab; simp [IntOp.maxsi]
    · simp only [IntOp.maxsi, BitVec.slt_eq_decide, e a ha, e b hb]; split <;> rename_i hh <;> simp at hh <;> first | rfl | omega

theorem max_least (a : ℕ) (ha : a < 1600) : IntOp.maxsi (BitVec.ofNat 32 a) 2147483648#32 = BitVec.ofNat 32 a := by
  have e : (BitVec.ofNat 32 a).toInt = a := by rw [BitVec.toInt_eq_toNat_cond, BitVec.toNat_ofNat]; omega
  have e' : (2147483648#32 : BitVec 32).toInt = -2147483648 := by decide
  simp only [IntOp.maxsi, BitVec.slt_eq_decide, e, e']; split <;> rename_i hh <;> simp at hh <;> first | rfl | omega

/-- The largest of some small numbers, taken as signed words from the least one on. -/
theorem fold_max {ι : Type} (s : Finset ι) (f : ι → BitVec 32) (g : ι → ℕ) (hf : ∀ x, f x = BitVec.ofNat 32 (g x)) (hg : ∀ x, g x < 1600) :
    s = ∅ ∨ ∃ M, s.fold IntOp.maxsi 2147483648#32 f = BitVec.ofNat 32 M ∧ M < 1600 ∧ ∀ x ∈ s, g x ≤ M := by
  classical
  induction s using Finset.induction_on with
  | empty => exact .inl rfl
  | insert a s ha ih =>
    right
    rw [Finset.fold_insert ha, hf a]
    rcases ih with rfl | ⟨M, hM, hl, hx⟩
    · exact ⟨g a, by rw [Finset.fold_empty, max_least _ (hg a)], hg a, by simp⟩
    · refine ⟨max (g a) M, by rw [hM, max_ofNat _ _ (hg a) hl], by have := hg a; omega, fun x h => ?_⟩
      rcases Finset.mem_insert.mp h with rfl | h
      · exact le_max_left _ _
      · exact (hx x h).trans (le_max_right _ _)

/-- The rows' numbers. -/
abbrev num (d : IVec S1x1600 32) (j : Fin 1600) : ℤ := (d (ix2 0 j)).toInt

section
variable (d : IVec S1x1600 32) (hd : ∀ j, InRange (d (ix2 0 j))) (hm : Monotone (num d))
include hd hm

theorem double_step (k m : ℕ) (hs) (hc) (x : IVec (row 1600) 32) (hkm : k + m = 1600)
    (hx : ∀ j, x (ix2 0 j) = BitVec.ofNat 32 (Runs.before (num d) k j).card) (j : Fin 1600) :
    doubleI k m hs hc d x (ix2 0 j) = BitVec.ofNat 32 (Runs.before (num d) (k + k) j).card := by
  rw [doubleI_apply k m hs hc d x j hkm hd, Runs.before_double hm, hx]
  split
  · rw [hx, BitVec.ofNat_add]
  · simp

end

variable (x5 : Vec Ideal S1x1x1600 .i32) (hd : ∀ j, InRange (idsOf (F := Ideal) x5 (ix2 0 j))) (hm : Monotone (num (idsOf (F := Ideal) x5)))
include hd hm

theorem placeOf_apply (j : Fin 1600) :
    placeOf (F := Ideal) x5 (ix2 0 j) = BitVec.ofNat 32 (Runs.place (num (idsOf (F := Ideal) x5)) j) := by
  have h := fun k m hs hc hkm x => double_step _ hd hm k m hs hc x hkm
  rw [placeOf_eq]
  have e := h 1024 576 slices_S1x1600_o0_0_S1x576 concatenates_S1x1024_S1x576_S1x1600_d1 rfl _ <|
    h 512 1088 slices_S1x1600_o0_0_S1x1088 concatenates_S1x512_S1x1088_S1x1600_d1 rfl _ <|
    h 256 1344 slices_S1x1600_o0_0_S1x1344 concatenates_S1x256_S1x1344_S1x1600_d1 rfl _ <|
    h 128 1472 slices_S1x1600_o0_0_S1x1472 concatenates_S1x128_S1x1472_S1x1600_d1 rfl _ <|
    h 64 1536 slices_S1x1600_o0_0_S1x1536 concatenates_S1x64_S1x1536_S1x1600_d1 rfl _ <|
    h 32 1568 slices_S1x1600_o0_0_S1x1568 concatenates_S1x32_S1x1568_S1x1600_d1 rfl _ <|
    h 16 1584 slices_S1x1600_o0_0_S1x1584 concatenates_S1x16_S1x1584_S1x1600_d1 rfl _ <|
    h 8 1592 slices_S1x1600_o0_0_S1x1592 concatenates_S1x8_S1x1592_S1x1600_d1 rfl _ <|
    h 4 1596 slices_S1x1600_o0_0_S1x1596 concatenates_S1x4_S1x1596_S1x1600_d1 rfl _ <|
    h 2 1598 slices_S1x1600_o0_0_S1x1598 concatenates_S1x2_S1x1598_S1x1600_d1 rfl _ <|
    h 1 1599 slices_S1x1600_o0_0_S1x1599 concatenates_S1x1_S1x1599_S1x1600_d1 rfl (broadcast S1x1600 1#32)
      fun j => by rw [Runs.before_one]; rfl
  show IntOp.subi _ _ = _
  rw [e j, Runs.before_all _ (by decide)]
  show BitVec.ofNat 32 (_ + 1) - 1#32 = _
  rw [BitVec.ofNat_add]
  show _ + 1#32 - 1#32 = _
  exact add_sub_cancel_right _ _

theorem topOf_apply : ∃ M : ℕ, topOf (F := Ideal) x5 = BitVec.ofNat 32 M ∧ M < 1600 ∧ ∀ j, Runs.place (num (idsOf (F := Ideal) x5)) j ≤ M := by
  unfold topOf extractAt
  pointwise [k0_pay23]
  have h := fold_max (Finset.univ : Finset (Fin 1 × Fin 1600)) (fun x => placeOf (F := Ideal) x5 (ix2 0 x.2))
    (fun x => Runs.place (num (idsOf (F := Ideal) x5)) x.2) (fun x => placeOf_apply x5 hd hm x.2) (fun x => Runs.place_lt x.2)
  rcases h with h | ⟨M, a, b, c⟩
  · exact absurd h (Finset.univ_nonempty (α := Fin 1 × Fin 1600)).ne_empty
  · exact ⟨M, a, b, fun j => c (0, j) (Finset.mem_univ _)⟩

end Cert.Proof.KernelIdeal
-- ==== Proof.KI.Suffix.lean ====
/- The largest product among a row and the rows after it in its run, which the kernel finds by doubling. -/
module

public import proofs.«01_k».proof.Proof.KI.Place

@[expose] public section

set_option maxRecDepth 16384

noncomputable section

namespace Cert.Proof.KernelIdeal

open Cert.KernelIdeal Cert.KernelIdeal.Gen
open Idealize.ShloMosaic

/-- `m` rows of products. -/
abbrev rows (m : ℕ) : Shape := ⟨2, ![m, 256]⟩

/-- One doubling: where the bit `b` is set, the maximum with what lies `k` rows ahead. -/
def doubleF (k m : ℕ) (b : BitVec 32) (hs : (rows 1600).Slices ![k, 0] (rows m)) (hc : Shape.Concatenates [rows m, rows k] (rows 1600) 0)
    (x : IVec S1600x1 32) (v : FVec Ideal (rows 1600) .bf16) : FVec Ideal (rows 1600) .bf16 :=
  select (broadcastTo S1600x256 (shapeCast S1600x1 (cmpi .ne (andi x (broadcast S1600x1 b)) (broadcast S1600x1 0#32)) shapeCasts_S1600x1_S1600x1)
      broadcasts_S1600x1_S1600x256)
    (maximumf v (concatenate (rows 1600) 0 [⟨rows m, extractStridedSlice (rows m) ![k, 0] v hs⟩,
      ⟨rows k, broadcast (rows k) (Named.named κ "empty_mark" 0xFF62#16)⟩] hc)) v

theorem doubleF_apply (k m : ℕ) (b : BitVec 32) (hs) (hc) (x : IVec S1600x1 32) (v : FVec Ideal (rows 1600) .bf16) (j : Fin 1600) (l : Fin 256)
    (hkm : m + k = 1600) :
    (∀ h : j.val + k < 1600, IntOp.andi (x (ix2 j 0)) b ≠ 0#32 → doubleF k m b hs hc x v (ix2 j l) = max (v (ix2 j l)) (v (ix2 ⟨j.val + k, h⟩ l)))
    ∧ (IntOp.andi (x (ix2 j 0)) b = 0#32 → doubleF k m b hs hc x v (ix2 j l) = v (ix2 j l)) := by
  constructor
  · intro h hb
    unfold doubleF
    pointwise
    have e : IntOp.cmpi CmpIPredicate.ne (IntOp.andi (x (ix2 j 0)) b) 0#32 = 1#1 := by
      show BitVec.ofBool (IntOp.andi (x (ix2 j 0)) b != 0#32) = 1#1
      rw [bne_iff_ne.mpr hb]; rfl
    rw [e, dif_pos (show j.val < m by omega)]
    show max _ (v (ix2 ⟨k + j.val, _⟩ l)) = _
    simp only [Nat.add_comm k]
  · intro hb
    unfold doubleF
    pointwise
    have e : IntOp.cmpi CmpIPredicate.ne (IntOp.andi (x (ix2 j 0)) b) 0#32 = 0#1 := by simp [IntOp.cmpi, hb]
    rw [e]
    rfl

theorem sufOf_eq (lin : FVec Ideal S1600x256 .f32) (x4 : Vec Ideal S1600x1 .i32) : sufOf (F := Ideal) lin x4 =
    doubleF 16 1584 16#32 slices_S1600x256_o16_0_S1584x256 concatenates_S1584x256_S16x256_S1600x256_d0 (k0_pay16 (F := Ideal) x4)
    (doubleF 8 1592 8#32 slices_S1600x256_o8_0_S1592x256 concatenates_S1592x256_S8x256_S1600x256_d0 (k0_pay16 (F := Ideal) x4)
    (doubleF 4 1596 4#32 slices_S1600x256_o4_0_S1596x256 concatenates_S1596x256_S4x256_S1600x256_d0 (k0_pay16 (F := Ideal) x4)
    (doubleF 2 1598 2#32 slices_S1600x256_o2_0_S1598x256 concatenates_S1598x256_S2x256_S1600x256_d0 (k0_pay16 (F := Ideal) x4)
    (doubleF 1 1599 1#32 slices_S1600x256_o1_0_S1599x256 concatenates_S1599x256_S1x256_S1600x256_d0 (k0_pay16 (F := Ideal) x4)
      (truncf .bf16 lin bitsLt_bf16_f32))))) := by
  rfl

/-- Of a row, bit `b` says whether the row `k` further on belongs to its run. -/
def BitOk (x : IVec S1600x1 32) (d : Fin 1600 → ℤ) (k : ℕ) : Prop :=
  ∀ j : Fin 1600, IntOp.andi (x (ix2 j 0)) (BitVec.ofNat 32 k) ≠ 0#32 ↔ ∃ h : j.val + k < 1600, d ⟨j.val + k, h⟩ = d j

theorem doubleF_step (d : Fin 1600 → ℤ) (hm : Monotone d) (k m : ℕ) (hs) (hc) (x : IVec S1600x1 32) (v : FVec Ideal (rows 1600) .bf16)
    (hkm : m + k = 1600) (hb : BitOk x d k) (lin : Fin 1600 → Fin 256 → EReal)
    (hv : ∀ j l, Runs.Top (fun i => lin i l) (Runs.After d k j) (v (ix2 j l))) (j : Fin 1600) (l : Fin 256) :
    Runs.Top (fun i => lin i l) (Runs.After d (k + k) j) (doubleF k m (BitVec.ofNat 32 k) hs hc x v (ix2 j l)) := by
  have h := doubleF_apply k m (BitVec.ofNat 32 k) hs hc x v j l hkm
  refine Runs.after_double hm k (fun j => v (ix2 j l)) (fun j => hv j l) j _ (fun hj e => h.1 hj ((hb j).mpr ⟨hj, e⟩)) (fun hn => h.2 ?_)
  by_contra hc
  obtain ⟨hj, e⟩ := (hb j).mp hc
  exact hn hj e

theorem sufOf_apply (d : Fin 1600 → ℤ) (hm : Monotone d) (lin : FVec Ideal S1600x256 .f32) (x4 : Vec Ideal S1600x1 .i32)
    (hb : ∀ k, k = 1 ∨ k = 2 ∨ k = 4 ∨ k = 8 ∨ k = 16 → BitOk (k0_pay16 (F := Ideal) x4) d k) (j : Fin 1600) (l : Fin 256) :
    Runs.Top (fun i => lin (ix2 i l)) (Runs.After d 32 j) (sufOf (F := Ideal) lin x4 (ix2 j l)) := by
  have h := fun k m hs hc hkm hk v => doubleF_step d hm k m hs hc (k0_pay16 (F := Ideal) x4) v hkm (hb k hk) (fun i l => lin (ix2 i l))
  rw [sufOf_eq]
  exact (h 16 1584 slices_S1600x256_o16_0_S1584x256 concatenates_S1584x256_S16x256_S1600x256_d0 rfl (by simp) _ <|
    h 8 1592 slices_S1600x256_o8_0_S1592x256 concatenates_S1592x256_S8x256_S1600x256_d0 rfl (by simp) _ <|
    h 4 1596 slices_S1600x256_o4_0_S1596x256 concatenates_S1596x256_S4x256_S1600x256_d0 rfl (by simp) _ <|
    h 2 1598 slices_S1600x256_o2_0_S1598x256 concatenates_S1598x256_S2x256_S1600x256_d0 rfl (by simp) _ <|
    h 1 1599 slices_S1600x256_o1_0_S1599x256 concatenates_S1599x256_S1x256_S1600x256_d0 rfl (by simp) (truncf .bf16 lin bitsLt_bf16_f32)
      fun j l => Runs.after_one j) j l

end Cert.Proof.KernelIdeal
-- ==== Proof.KI.Bits.lean ====
/- The bits the host sets on each row: bit `i` says that the row `2^i` further on lies in the same block and the same segment. -/
module

public import proofs.«01_k».proof.Proof.KI.Host
public import proofs.«01_k».proof.Proof.KI.Blocks
public import proofs.«01_k».proof.Proof.KI.Suffix

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ)

theorem toInt_small (n : ℕ) (h : n < 2 ^ 31) : (BitVec.ofNat 32 n).toInt = n := by
  have e : (BitVec.ofNat 32 n).toNat = n := by rw [BitVec.toNat_ofNat]; omega
  rw [BitVec.toInt_eq_toNat_of_lt (by omega), e]

/-- A row's place in its block, as the host computes it: the remainder by 1600, moved up by 1600 if it were negative. -/
def posOf (n : BitVec 32) : BitVec 32 :=
  have d : BitVec 32 := Scalar.select (IntOp.cmpi .eq 1600#32 0#32) 1#32 1600#32
  have r : BitVec 32 := IntOp.remsi .host n d
  Scalar.select (IntOp.andi (IntOp.cmpi .ne (IntOp.cmpi .slt r 0#32) (IntOp.cmpi .slt d 0#32)) (IntOp.cmpi .ne r 0#32)) (IntOp.addi r d) r

theorem posOf_eq (n : ℕ) (hn : n < 320000) : posOf (BitVec.ofNat 32 n) = BitVec.ofNat 32 (n % 1600) := by
  have hr : IntOp.remsi .host (BitVec.ofNat 32 n) 1600#32 = BitVec.ofNat 32 (n % 1600) := by
    apply BitVec.eq_of_toNat_eq
    have h : (BitVec.ofNat 32 n).toNat = n := by rw [BitVec.toNat_ofNat]; omega
    have := IntOp.toNat_remsi .host (x := BitVec.ofNat 32 n) (by omega) 1600 (by decide) (by decide)
    refine this.trans ?_
    rw [h, BitVec.toNat_ofNat]
    omega
  have hs : IntOp.cmpi .slt (BitVec.ofNat 32 (n % 1600)) 0#32 = 0#1 := by
    have e := toInt_small (n % 1600) (by omega)
    simp only [IntOp.cmpi, BitVec.slt_eq_decide, e]
    rw [decide_eq_false (by have : (0#32 : BitVec 32).toInt = 0 := by decide
                            omega)]
    rfl
  show Scalar.select (IntOp.andi (IntOp.cmpi .ne (IntOp.cmpi .slt (IntOp.remsi .host (BitVec.ofNat 32 n) 1600#32) 0#32) 0#1) (IntOp.cmpi .ne (IntOp.remsi .host (BitVec.ofNat 32 n) 1600#32) 0#32))
    (IntOp.addi (IntOp.remsi .host (BitVec.ofNat 32 n) 1600#32) 1600#32) (IntOp.remsi .host (BitVec.ofNat 32 n) 1600#32) = _
  rw [hr, hs]
  generalize IntOp.cmpi .ne (BitVec.ofNat 32 (n % 1600)) 0#32 = b
  have : IntOp.andi (IntOp.cmpi .ne (0#1 : BitVec 1) 0#1) b = 0#1 := by decide +revert
  rw [this]
  rfl

/-- Whether the row `k` further on lies in the same block and the same segment, as the host computes it. -/
def flag (d : IVec S320000 32) (n : Fin 320000) (k : ℕ) : BitVec 1 :=
  IntOp.andi (if h : n.val < 320000 - k then IntOp.cmpi .eq (d (ix1 ⟨k + n.val, by omega⟩)) (d (ix1 n)) else 0#1)
    (IntOp.cmpi .slt (IntOp.addi (posOf (BitVec.ofNat 32 n)) (BitVec.ofNat 32 k)) 1600#32)

theorem flag_iff (d : IVec S320000 32) (t : ℕ) (ht : t < 200) (j : Fin 1600) (k : ℕ) (hk : k < 1600) :
    flag d ⟨t * 1600 + j, by omega⟩ k = 1#1 ↔ ∃ h : j.val + k < 1600, d (ix1 ⟨t * 1600 + (j + k), by omega⟩) = d (ix1 ⟨t * 1600 + j, by omega⟩) := by
  have e : IntOp.addi (BitVec.ofNat 32 ((t * 1600 + j.val) % 1600)) (BitVec.ofNat 32 k) = BitVec.ofNat 32 (j.val + k) := by
    rw [show (t * 1600 + j.val) % 1600 = j.val by omega]
    exact (BitVec.ofNat_add ..).symm
  have h2 : IntOp.cmpi .slt (BitVec.ofNat 32 (j.val + k)) 1600#32 = BitVec.ofBool (decide (j.val + k < 1600)) := by
    have e := toInt_small (j.val + k) (by omega)
    simp only [IntOp.cmpi, BitVec.slt_eq_decide, e]
    congr 1
    rw [decide_eq_decide, show (1600#32 : BitVec 32).toInt = 1600 by decide]
    omega
  unfold flag
  simp only [posOf_eq _ (show t * 1600 + j.val < 320000 by omega), e, h2]
  by_cases h : j.val + k < 1600
  · have hh : t * 1600 + j.val < 320000 - k := by omega
    rw [dif_pos hh, decide_eq_true h]
    have e1 : (⟨k + (t * 1600 + j.val), by omega⟩ : Fin 320000) = ⟨t * 1600 + (j + k), by omega⟩ := Fin.ext (by simp only; omega)
    simp only [e1, h, exists_true_left, IntOp.cmpi]
    generalize d (ix1 ⟨t * 1600 + (j.val + k), by omega⟩) = a
    generalize d (ix1 ⟨t * 1600 + j.val, by omega⟩) = b
    constructor
    · intro hx
      by_contra hab
      rw [beq_eq_false_iff_ne.mpr hab] at hx
      exact absurd hx (by decide)
    · intro hab
      rw [beq_iff_eq.mpr hab]
      rfl
  · rw [decide_eq_false h]
    simp only [h, IsEmpty.exists_iff, iff_false]
    have hz : ∀ b : BitVec 1, IntOp.andi b (BitVec.ofBool false) ≠ 1#1 := by decide
    exact hz _

/-- The five flags of a row, as the bits of one word. -/
def bitsOf (b0 b1 b2 b3 b4 : BitVec 1) : BitVec 32 :=
  IntOp.ori (IntOp.ori (IntOp.ori (IntOp.ori (IntOp.ori 0#32 (IntOp.shli .host (b0.setWidth 32) 0#32)) (IntOp.shli .host (b1.setWidth 32) 1#32))
    (IntOp.shli .host (b2.setWidth 32) 2#32)) (IntOp.shli .host (b3.setWidth 32) 3#32)) (IntOp.shli .host (b4.setWidth 32) 4#32)

theorem bitsOf_bit (b0 b1 b2 b3 b4 : BitVec 1) :
    (IntOp.andi (bitsOf b0 b1 b2 b3 b4) (BitVec.ofNat 32 1) ≠ 0#32 ↔ b0 = 1#1) ∧ (IntOp.andi (bitsOf b0 b1 b2 b3 b4) (BitVec.ofNat 32 2) ≠ 0#32 ↔ b1 = 1#1) ∧
    (IntOp.andi (bitsOf b0 b1 b2 b3 b4) (BitVec.ofNat 32 4) ≠ 0#32 ↔ b2 = 1#1) ∧ (IntOp.andi (bitsOf b0 b1 b2 b3 b4) (BitVec.ofNat 32 8) ≠ 0#32 ↔ b3 = 1#1) ∧
    (IntOp.andi (bitsOf b0 b1 b2 b3 b4) (BitVec.ofNat 32 16) ≠ 0#32 ↔ b4 = 1#1) := by
  have h : ∀ u : BitVec 32, ∀ v : BitVec 32, v.toNat < 32 → IntOp.shli .host u v = u <<< v := fun u v hv => if_pos hv
  unfold bitsOf
  rw [h _ _ (by decide), h _ _ (by decide), h _ _ (by decide), h _ _ (by decide), h _ _ (by decide)]
  unfold IntOp.ori IntOp.andi
  decide +revert

theorem V_bits (c : Dev nD) (n : Fin 320000) : V m c main_v73 (ix2 n 0) =
    bitsOf (flag (idsArg m c) n 1) (flag (idsArg m c) n 2) (flag (idsArg m c) n 4) (flag (idsArg m c) n 8) (flag (idsArg m c) n 16) := by
  dsimp only [V, V0]
  after_reads_at
  after_reads_at
  rfl

theorem bits_block (c : Dev nD) (t : Fin cfg0.N) (j : Fin 1600) :
    iblk m c 3 t (ix2 j 0) = V m c main_v73 (ix2 ⟨t.val * 1600 + j, by have : t.val < 200 := t.isLt; omega⟩ 0) := by
  blk_ext [iblk, block3 t]

/-- The bits the kernel reads say what they should. -/
theorem bits_ok (c : Dev nD) (t : Fin cfg0.N) (k : ℕ) (hk : k = 1 ∨ k = 2 ∨ k = 4 ∨ k = 8 ∨ k = 16) :
    BitOk (k0_pay16 (F := Ideal) (iblk m c 3 t)) (num (idsOf (F := Ideal) (iblk m c 4 t))) k := by
  intro j
  have ht : t.val < 200 := t.isLt
  have e : k0_pay16 (F := Ideal) (iblk m c 3 t) (ix2 j 0) = iblk m c 3 t (ix2 j 0) := by pointwise [k0_pay16]
  have ei : ∀ i, idsOf (F := Ideal) (iblk m c 4 t) (ix2 0 i) = idsArg m c (ix1 ⟨t.val * 1600 + i, by omega⟩) := fun i => by
    rw [← ids_block m c t i]
    unfold idsOf
    pointwise [k0_pay17]
  have hf := flag_iff (idsArg m c) t.val ht j k (by omega)
  have hn : (∃ h : j.val + k < 1600, num (idsOf (F := Ideal) (iblk m c 4 t)) ⟨j.val + k, h⟩ = num (idsOf (F := Ideal) (iblk m c 4 t)) j) ↔
      ∃ h : j.val + k < 1600, idsArg m c (ix1 ⟨t.val * 1600 + (j + k), by omega⟩) = idsArg m c (ix1 ⟨t.val * 1600 + j, by omega⟩) :=
    exists_congr fun h => by rw [num, num, ei, ei, BitVec.toInt_inj]
  have hb := bitsOf_bit (flag (idsArg m c) ⟨t.val * 1600 + j, by omega⟩ 1) (flag (idsArg m c) ⟨t.val * 1600 + j, by omega⟩ 2)
    (flag (idsArg m c) ⟨t.val * 1600 + j, by omega⟩ 4) (flag (idsArg m c) ⟨t.val * 1600 + j, by omega⟩ 8) (flag (idsArg m c) ⟨t.val * 1600 + j, by omega⟩ 16)
  rw [hn, ← hf, e, bits_block, V_bits]
  rcases hk with rfl | rfl | rfl | rfl | rfl
  · exact hb.1
  · exact hb.2.1
  · exact hb.2.2.1
  · exact hb.2.2.2.1
  · exact hb.2.2.2.2

end Cert.Proof.KernelIdeal
-- ==== Proof.Ref.lean ====
/- What the reference's two results hold, at one element. -/
module

public import proofs.«01_k».proof.Proof.Linear
public import proofs.«01_k».proof.Proof.Scatter
public import proofs.«01_k».proof.Proof.KI.Bits
public import proofs.«01_k».proof.Proof.Gen.ReferenceIdeal.Run

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe

variable (m : (ℓ : Loc nD τ sig) → Buf (Elt Ideal) ℓ)

/-- The rows of features. -/
abbrev featsArg (c : Dev nD) : Shape.Idx S320000x128 → EReal := m ((c.tc : Thread nD τ).loc main_arg0)
/-- The coordinates. -/
abbrev coordsArg (c : Dev nD) : Shape.Idx S320000x3 → EReal := m ((c.tc : Thread nD τ).loc main_arg1)
/-- The segment of every row. -/
abbrev idsArg (c : Dev nD) : IVec S320000 32 := m ((c.tc : Thread nD τ).loc main_arg2)
/-- The layer norm's scale. -/
abbrev gammaArg (c : Dev nD) : Shape.Idx S128 → EReal := m ((c.tc : Thread nD τ).loc main_arg3)
/-- The layer norm's shift. -/
abbrev betaArg (c : Dev nD) : Shape.Idx S128 → EReal := m ((c.tc : Thread nD τ).loc main_arg4)
/-- The weights of the linear map. -/
abbrev weightArg (c : Dev nD) : Shape.Idx S128x256 → EReal := m ((c.tc : Thread nD τ).loc main_arg5)
/-- The bias of the linear map. -/
abbrev biasArg (c : Dev nD) : Shape.Idx S256 → EReal := m ((c.tc : Thread nD τ).loc main_arg6)

/-- The linear map of the normed row `n`, at column `l`. -/
def lin (c : Dev nD) (n : Fin 320000) (l : Fin 256) : EReal :=
  Linear.linear (Linear.byQuotient (fun k => featsArg m c (ix2 n k)) (fun k => gammaArg m c (ix1 k)) fun k => betaArg m c (ix1 k))
    (fun k j => weightArg m c (ix2 k j)) (fun j => biasArg m c (ix1 j)) l

/-- The segment of row `n`, as a number. -/
def seg (c : Dev nD) (n : Fin 320000) : ℤ := (idsArg m c (ix1 n)).toInt

/-- How many rows segment `s` has. -/
def count (c : Dev nD) (s : Fin 40000) : EReal := ∑ n, if seg m c n = (s.val : ℤ) then (1 : EReal) else 0

/-- The segments as a column, as the scatters take them. -/
abbrev column (c : Dev nD) : IVec S320000x1 32 := broadcastInDim S320000x1 ![0] bcast_S320000_S320000x1_0 (idsArg m c)

theorem column_apply (c : Dev nD) (n : Fin 320000) : column m c (ix2 n 0) = idsArg m c (ix1 n) := by
  pointwise

/-- Where an update row of the counts starts: at its segment. -/
theorem start_zero (c : Dev nD) (n : Fin 320000) (q : Fin 1) :
    scatter_S40000x1_S320000x1_S320000x1_1_0_0_1.start (ix2 n q) (column m c) (0 : Fin 2) = (column m c (ix2 n 0)).toInt := by
  refine congrArg (fun i => (column m c i).toInt) (funext fun b => ?_)
  match b with
  | ⟨0, _⟩ => rfl
  | ⟨1, _⟩ => rfl

/-- Where an update row of the coordinates starts: at its segment. -/
theorem start_zero' (c : Dev nD) (n : Fin 320000) (q : Fin 3) :
    scatter_S40000x3_S320000x1_S320000x3_1_0_0_1.start (ix2 n q) (column m c) (0 : Fin 2) = (column m c (ix2 n 0)).toInt := by
  refine congrArg (fun i => (column m c i).toInt) (funext fun b => ?_)
  match b with
  | ⟨0, _⟩ => rfl
  | ⟨1, _⟩ => rfl

/-- The scatter of ones counts a segment's rows. -/
theorem count_apply (c : Dev nD) (s : Fin 40000) :
    Host.scatterAdd (F := Ideal) (φ := .f32) scatter_S40000x1_S320000x1_S320000x1_1_0_0_1 (broadcastInDim S40000x1 ![] bcast_S_S40000x1 (constant S_ .f32 0#32)) (column m c)
      (broadcastInDim S320000x1 ![] bcast_S_S320000x1 (constant S_ .f32 1065353216#32)) (ix2 s 0) = count m c s := by
  refine (scatter_rows (w := 1) _ _ (start_zero m c) (fun _ _ => rfl) (fun _ _ => rfl) (fun _ _ => rfl) _ _ s 0).trans ?_
  simp only [column_apply]
  pointwise [count, seg]

/-- The scatter of the coordinates sums them over a segment's rows. -/
theorem coords_sum (c : Dev nD) (s : Fin 40000) (q : Fin 3) :
    Host.scatterAdd (F := Ideal) (φ := .f32) scatter_S40000x3_S320000x1_S320000x3_1_0_0_1 (broadcastInDim S40000x3 ![] bcast_S_S40000x3 (constant S_ .f32 0#32)) (column m c)
      (coordsArg m c) (ix2 s q) = ∑ n, if seg m c n = (s.val : ℤ) then coordsArg m c (ix2 n q) else 0 := by
  refine (scatter_rows (w := 3) _ _ (start_zero' m c) (fun _ _ => rfl) (fun _ _ => rfl) (fun _ _ => rfl) _ _ s q).trans ?_
  simp only [column_apply]
  pointwise [seg]

/-- The segment of a row, read as a word, is `s` exactly when it is `s` as a number. -/
theorem isSeg (c : Dev nD) (n : Fin 320000) (s : Fin 40000) (a b : EReal) :
    Scalar.select (IntOp.cmpi .eq (idsArg m c (ix1 n)) (BitVec.ofNat 32 s.val)) a b = if seg m c n = (s.val : ℤ) then a else b := by
  have e : idsArg m c (ix1 n) = BitVec.ofNat 32 s.val ↔ seg m c n = (s.val : ℤ) := by
    rw [← BitVec.toInt_inj, KernelIdeal.toInt_small _ (by omega)]
    rfl
  rw [WordCmp.cmpi_eq_eq, WordCmp.select_decide]
  exact if_congr e rfl rfl

/-- The reference's literal for minus infinity. -/
theorem minus_inf : Ideal.ofBits .f32 4286578688#32 = (⊥ : EReal) := by
  simp [Ideal.ofBits, Ideal.ieee]

/-- The reference divides by the width less nothing. -/
theorem width_less : Ideal.ofBits .f32 1124073472#32 - FloatOps.sitofp (F := Ideal) .f32 0#32 = Linear.width := by
  have e : (FloatOps.sitofp (F := Ideal) .f32 0#32 : EReal) = 0 := by
    show (((0#32 : BitVec 32).toInt : ℝ) : EReal) = 0
    simp
  exact (congrArg (Ideal.ofBits .f32 1124073472#32 - ·) e).trans (sub_zero _)

theorem width_pos : 0 < Linear.width := by
  rw [Linear.width_eq]
  exact_mod_cast (by norm_num : (0 : ℝ) < 128)

/-- The first result: the maximum of the products over a segment's rows, zero where the segment has none. -/
theorem feats_apply (c : Dev nD) (s : Fin 40000) (l : Fin 256) :
    (res_out0 m c : Shape.Idx S40000x256 → EReal) (ix2 s l)
      = if 0 < count m c s then Finset.fold max ⊥ (fun n => if seg m c n = (s.val : ℤ) then lin m c n l else ⊥) Finset.univ else 0 := by
  unfold res_out0
  pointwise [res_main_v38]
  rw [count_apply]
  simp only [width_less, if_pos width_pos, minus_inf]
  refine if_congr Iff.rfl (Finset.fold_congr fun n _ => (isSeg m c n s _ _).trans ?_) Ideal.ofBits_zero_f32
  exact if_congr Iff.rfl rfl minus_inf

/-- The second result. -/
def res_out1 (c : Dev nD) : FVec Ideal S40000x3 .f32 :=
  Host.divf (Host.scatterAdd scatter_S40000x3_S320000x1_S320000x3_1_0_0_1 (broadcastInDim S40000x3 ![] bcast_S_S40000x3 (constant S_ .f32 0x00000000#32)) (column m c) (coordsArg m c))
    (broadcastInDim S40000x3 ![0, 1] bcast_S40000x1_S40000x3_0_1 (maximumf (broadcastInDim S40000x1 ![] bcast_S_S40000x1 (id (constant S_ .f32 0x3F800000#32)))
      (Host.scatterAdd scatter_S40000x1_S320000x1_S320000x1_1_0_0_1 (broadcastInDim S40000x1 ![] bcast_S_S40000x1 (constant S_ .f32 0x00000000#32)) (column m c)
        (broadcastInDim S320000x1 ![] bcast_S_S320000x1 (constant S_ .f32 0x3F800000#32)))))

/-- The second result: the mean of the coordinates over a segment's rows. -/
theorem coords_apply (c : Dev nD) (s : Fin 40000) (q : Fin 3) :
    res_out1 m c (ix2 s q)
      = Ideal.div (∑ n, if seg m c n = (s.val : ℤ) then coordsArg m c (ix2 n q) else 0) (max 1 (count m c s)) := by
  pointwise [res_out1]
  rw [count_apply, coords_sum]
  exact congrArg (fun u => Ideal.div _ (max u _)) Ideal.ofBits_one_f32

end Cert.Proof.ReferenceIdeal
-- ==== Proof.KI.Phase.lean ====
/- The kernel's stored values, read at an index. -/
module

public import proofs.«01_k».proof.Proof.KI.Body
public import proofs.«01_k».proof.Proof.KI.Checks
public import Idealize.ShloMosaic.Lib.Pointwise
public import Idealize.ShloMosaic.PureOps.Ideal.Laws

@[expose] public section

set_option maxRecDepth 16384

noncomputable section

namespace Cert.Proof.KernelIdeal

open Cert.KernelIdeal Cert.KernelIdeal.Gen
open Idealize.ShloMosaic

/-- One phase at one element: where the count exceeds the place `q`, the maximum with the value of the row at that place. -/
def phase (p : Fin 1600 → BitVec 32) (q : BitVec 32) (cnt : EReal) (sel v : Fin 1600 → EReal) (w : EReal) : EReal :=
  if ((q.toInt : ℝ) : EReal) < cnt then max w (∑ x, if p x = q then sel x * v x else 0) else w

theorem select_eq (a b : BitVec 32) (x y : EReal) : Scalar.select (IntOp.cmpi CmpIPredicate.eq a b) x y = if a = b then x else y := by
  by_cases h : a = b
  · rw [if_pos h]; simp [Scalar.select, IntOp.cmpi, h]
  · rw [if_neg h]; simp [Scalar.select, IntOp.cmpi, beq_eq_false_iff_ne.mpr h]

theorem pay35_apply (p : IVec S1x1600 32) (n : BitVec 32) (v : FVec Ideal S1600x256 .bf16) (sel : FVec Ideal S320x1600 .f32)
    (cnt : FVec Ideal S4x320 .f32) (k : Fin (k0_t1_loop n).trips) (w : Vec Ideal S2x160x256 .f32) (a : Fin 2) (r : Fin 160) (l : Fin 256) :
    k0_pay35 p n v sel cnt k w (ix3 a r l) = phase (fun j => p (ix2 0 j)) (Scalar.muli (Scf.iv 1#32 1#32 k.val) 32#32)
      (cnt (ix2 3 ⟨a.val * 160 + r.val, by omega⟩)) (fun j => sel (ix2 ⟨a.val * 160 + r.val, by omega⟩ j)) (fun j => v (ix2 j l)) (w (ix3 a r l)) := by
  pointwise [k0_pay35, k0_pay33]
  simp only [select_eq]
  rfl

theorem pay34_apply (p : IVec S1x1600 32) (v : FVec Ideal S1600x256 .bf16) (sel : FVec Ideal S320x1600 .f32)
    (cnt : FVec Ideal S4x320 .f32) (w : Vec Ideal S2x160x256 .f32) (a : Fin 2) (r : Fin 160) (l : Fin 256) :
    k0_pay34 p v sel cnt w (ix3 a r l) = phase (fun j => p (ix2 0 j)) 0#32
      (cnt (ix2 3 ⟨a.val * 160 + r.val, by omega⟩)) (fun j => sel (ix2 ⟨a.val * 160 + r.val, by omega⟩ j)) (fun j => v (ix2 j l)) (w (ix3 a r l)) := by
  pointwise [k0_pay34, k0_pay33]
  simp only [select_eq, phase, BitVec.toInt_zero, Int.cast_zero, EReal.coe_zero]

theorem pay37_apply (p : IVec S1x1600 32) (n : BitVec 32) (v : FVec Ideal S1600x256 .bf16) (sel : FVec Ideal S160x1600 .f32)
    (cnt : FVec Ideal S160x1 .f32) (k : Fin (k0_t4_loop n).trips) (w : Vec Ideal S1x160x256 .f32) (r : Fin 160) (l : Fin 256) :
    k0_pay37 p n v sel cnt 1#32 k w (ix3 0 r l) = phase (fun j => p (ix2 0 j)) (Scalar.muli (Scf.iv 1#32 1#32 k.val) 32#32)
      (cnt (ix2 r 0)) (fun j => sel (ix2 r j)) (fun j => v (ix2 j l)) (w (ix3 0 r l)) := by
  pointwise [k0_pay37]
  simp only [select_eq]
  rfl

/-- A row of zeros and a one: one at the rows whose number is `s`. -/
def sel (d : IVec S1x1600 32) (s : ℕ) (j : Fin 1600) : EReal := if (d (ix2 0 j)).toInt = s then 1 else 0

theorem sel_word (v w : BitVec 32) (b t r : ℕ) (hv : InRange v) (hw : Affine.IsInt w t) (ht : t ≤ 249) (hr : r < 320) :
    FloatOps.sitofp (F := Ideal) FTy.f32 (BitVec.setWidth 32 (IntOp.cmpi CmpIPredicate.eq (IntOp.subi v (Scalar.muli w 160#32)) (BitVec.ofNat 32 r)))
      = if v.toInt = ((160 * t + r : ℕ) : ℤ) then (1 : EReal) else 0 := by
  have e : (IntOp.subi v (Scalar.muli w 160#32) = BitVec.ofNat 32 r) ↔ v.toInt = ((160 * t + r : ℕ) : ℤ) := by
    have hwn : w = BitVec.ofNat 32 t := Affine.eq_of hw t rfl
    subst hwn
    have hvn : v.toInt = v.toNat := by have := hv.1; rw [BitVec.toInt_eq_toNat_cond] at *; split <;> omega
    have hv2 := hv.2
    rw [hvn] at hv2
    rw [hvn]
    simp only [IntOp.subi, Scalar.muli, IntOp.muli]
    rw [← BitVec.toNat_inj]
    simp only [BitVec.toNat_sub, BitVec.toNat_mul, BitVec.toNat_ofNat]
    omega
  by_cases h : IntOp.subi v (Scalar.muli w 160#32) = BitVec.ofNat 32 r
  · rw [if_pos (e.mp h)]
    rw [show IntOp.cmpi CmpIPredicate.eq (IntOp.subi v (Scalar.muli w 160#32)) (BitVec.ofNat 32 r) = 1#1 by simp [IntOp.cmpi, h]]
    show (((1#32 : BitVec 32).toInt : ℝ) : EReal) = 1
    norm_num
  · rw [if_neg (fun h' => h (e.mpr h'))]
    rw [show IntOp.cmpi CmpIPredicate.eq (IntOp.subi v (Scalar.muli w 160#32)) (BitVec.ofNat 32 r) = 0#1 by
      simp [IntOp.cmpi, beq_eq_false_iff_ne.mpr h]]
    show (((0#32 : BitVec 32).toInt : ℝ) : EReal) = 0
    norm_num

section
variable (d : IVec S1x1600 32) (hd : ∀ j, InRange (d (ix2 0 j)))
include hd

theorem pay29_apply (t : BitVec 32) (tp : ℕ) (ht : Affine.IsInt (Scalar.minsi t 248#32) tp) (hp : tp ≤ 249) (r : Fin 320) (j : Fin 1600) :
    k0_pay29 (F := Ideal) d t (ix2 r j) = sel d (160 * tp + r.val) j := by
  pointwise [k0_pay29]
  exact sel_word _ _ 0 tp r.val (hd j) ht hp r.isLt

theorem pay30_apply (a : FVec Ideal S4x1600 .f32) (t : BitVec 32) (tp : ℕ) (ht : Affine.IsInt (Scalar.minsi t 248#32) tp) (hp : tp ≤ 249)
    (q : Fin 4) (r : Fin 320) :
    k0_pay30 (F := Ideal) d a t (ix2 q r) = ∑ j : Fin 1600, a (ix2 q j) * sel d (160 * tp + r.val) j := by
  have e : k0_pay30 (F := Ideal) d a t (ix2 q r) = ∑ j : Fin 1600, a (ix2 q j) * k0_pay29 (F := Ideal) d t (ix2 r j) := by pointwise [k0_pay30]
  rw [e]
  exact Finset.sum_congr rfl fun j _ => by rw [pay29_apply d hd t tp ht hp]

omit hd in
theorem pay31_apply (a : FVec Ideal S4x1600 .f32) (t : BitVec 32) (w) (q : Fin 4) (r : Fin 160) :
    k0_pay31 (F := Ideal) d a t w (ix3 0 q r) = w (ix3 0 q r) + k0_pay30 (F := Ideal) d a t (ix2 q ⟨r.val, by omega⟩) := by
  pointwise [k0_pay31]

omit hd in
theorem pay32_apply (a : FVec Ideal S4x1600 .f32) (t : BitVec 32) (w) (q : Fin 4) (r : Fin 160) :
    k0_pay32 (F := Ideal) d a t w (ix3 0 q r) = w (ix3 0 q r) + k0_pay30 (F := Ideal) d a t (ix2 q ⟨160 + r.val, by omega⟩) := by
  pointwise [k0_pay32]

variable (lo hi s : BitVec 32) (k : Fin (k0_t3_loop lo hi).trips) (tp : ℕ) (ht : Affine.IsInt (Scf.iv s 1#32 k.val) tp) (hp : tp ≤ 249)
include ht hp

theorem pay3_apply (r : Fin 160) (j : Fin 1600) :
    k0_pay3 (F := Ideal) d lo hi (iota .tc S160x1600 32 [0] iota_S160x1600_d0_w32) s 1#32 k (ix2 r j) = sel d (160 * tp + r.val) j := by
  pointwise [k0_pay3]
  exact sel_word _ _ 0 tp r.val (hd j) ht hp (by omega)

theorem pay4_apply (a : FVec Ideal S4x1600 .f32) (q : Fin 4) (r : Fin 160) :
    k0_pay4 (F := Ideal) d a lo hi (iota .tc S160x1600 32 [0] iota_S160x1600_d0_w32) s 1#32 k (ix2 q r)
      = ∑ j : Fin 1600, a (ix2 q j) * sel d (160 * tp + r.val) j := by
  have e : k0_pay4 (F := Ideal) d a lo hi (iota .tc S160x1600 32 [0] iota_S160x1600_d0_w32) s 1#32 k (ix2 q r)
      = ∑ j : Fin 1600, a (ix2 q j) * k0_pay3 (F := Ideal) d lo hi (iota .tc S160x1600 32 [0] iota_S160x1600_d0_w32) s 1#32 k (ix2 r j) := by
    pointwise [k0_pay4]
  rw [e]
  exact Finset.sum_congr rfl fun j _ => by rw [pay3_apply d hd lo hi s k tp ht hp]

theorem pay5_apply (a : FVec Ideal S4x1600 .f32) (w) (q : Fin 4) (r : Fin 160) :
    k0_pay5 (F := Ideal) d a lo hi (iota .tc S160x1600 32 [0] iota_S160x1600_d0_w32) s 1#32 k w (ix3 0 q r)
      = w (ix3 0 q r) + ∑ j : Fin 1600, a (ix2 q j) * sel d (160 * tp + r.val) j := by
  have e : k0_pay5 (F := Ideal) d a lo hi (iota .tc S160x1600 32 [0] iota_S160x1600_d0_w32) s 1#32 k w (ix3 0 q r)
      = w (ix3 0 q r) + k0_pay4 (F := Ideal) d a lo hi (iota .tc S160x1600 32 [0] iota_S160x1600_d0_w32) s 1#32 k (ix2 q r) := by
    pointwise [k0_pay5]
  rw [e, pay4_apply d hd lo hi s k tp ht hp]

theorem pay6_apply (a : FVec Ideal S4x1600 .f32) (r : Fin 160) :
    k0_pay6 (F := Ideal) d a lo hi (iota .tc S160x1600 32 [0] iota_S160x1600_d0_w32) s 1#32 k (ix2 r 0)
      = ∑ j : Fin 1600, a (ix2 3 j) * sel d (160 * tp + r.val) j := by
  have e : k0_pay6 (F := Ideal) d a lo hi (iota .tc S160x1600 32 [0] iota_S160x1600_d0_w32) s 1#32 k (ix2 r 0)
      = k0_pay4 (F := Ideal) d a lo hi (iota .tc S160x1600 32 [0] iota_S160x1600_d0_w32) s 1#32 k (ix2 3 r) := by
    pointwise [k0_pay6]
  rw [e, pay4_apply d hd lo hi s k tp ht hp]

omit hd ht hp in
theorem pay7_apply (p : IVec S1x1600 32) (v : FVec Ideal S1600x256 .bf16) (a : FVec Ideal S4x1600 .f32) (w : Vec Ideal S1x160x256 .f32)
    (io : IVec S160x1600 32) (r : Fin 160) (l : Fin 256) :
    k0_pay7 d p v a lo hi io s 1#32 k w (ix3 0 r l) = phase (fun j => p (ix2 0 j)) 0#32
      (k0_pay6 (F := Ideal) d a lo hi io s 1#32 k (ix2 r 0)) (fun j => k0_pay3 (F := Ideal) d lo hi io s 1#32 k (ix2 r j))
      (fun j => v (ix2 j l)) (w (ix3 0 r l)) := by
  pointwise [k0_pay7]
  simp only [select_eq, phase, BitVec.toInt_zero, Int.cast_zero, EReal.coe_zero]

end

end Cert.Proof.KernelIdeal
-- ==== Proof.Tiles.lean ====
/- Windows of whole tiles: what a value holds at an index after some tiles were put into it. -/
module

public import Idealize.ShloMosaic.Lib.VecWindow
public import Idealize.ShloMosaic.Lib.Pointwise

@[expose] public section

namespace Cert.Proof

open Idealize.ShloMosaic

variable {α : Type} {A B C K : ℕ}

/-- A window of `K` tiles from tile `o` on, read at an index. -/
theorem window_tile (x : (⟨3, ![A, B, C]⟩ : Shape).Idx → α) (off : Fin 3 → ℕ) (o : ℕ) (h : off = ![o, 0, 0])
    (inb : ∀ a, off a + (![K, B, C] : Fin 3 → ℕ) a ≤ (![A, B, C] : Fin 3 → ℕ) a) (a : Fin K) (ha : o + a.val < A) (r : Fin B) (l : Fin C) :
    VecWindow.window (s := ⟨3, ![A, B, C]⟩) x off ![K, B, C] inb (ix3 a r l) = x (ix3 ⟨o + a.val, ha⟩ r l) := by
  subst h
  refine congrArg x (funext fun q => Fin.ext ?_)
  fin_cases q
  · show o + 1 * a.val = o + a.val; omega
  · show 0 + 1 * r.val = r.val; omega
  · show 0 + 1 * l.val = l.val; omega

/-- `K` tiles put from tile `o` on, read at an index. -/
theorem put_tile (x : (⟨3, ![A, B, C]⟩ : Shape).Idx → α) (off : Fin 3 → ℕ) (o : ℕ) (h : off = ![o, 0, 0])
    (w : (⟨3, ![K, B, C]⟩ : Shape).Idx → α) (t : Fin A) (r : Fin B) (l : Fin C) :
    VecWindow.put (s := ⟨3, ![A, B, C]⟩) x off ![K, B, C] w (ix3 t r l) =
      if h : o ≤ t.val ∧ t.val < o + K then w (ix3 ⟨t.val - o, by omega⟩ r l) else x (ix3 t r l) := by
  subst h
  unfold VecWindow.put
  by_cases ht : o ≤ t.val ∧ t.val < o + K
  · rw [dif_pos ht, dif_pos]
    · refine congrArg w (funext fun q => Fin.ext ?_)
      fin_cases q
      · rfl
      · show r.val - 0 = r.val; omega
      · show l.val - 0 = l.val; omega
    · intro q
      fin_cases q
      · exact ht
      · exact ⟨Nat.zero_le _, by show r.val < 0 + B; omega⟩
      · exact ⟨Nat.zero_le _, by show l.val < 0 + C; omega⟩
  · rw [dif_neg ht, dif_neg]
    exact fun h => ht (h 0)

end Cert.Proof
-- ==== Proof.KI.Block.lean ====
/- What one block does to the maxima and the sums: it joins its own rows, and nothing else. -/
module

public import proofs.«01_k».proof.Proof.KI.Phase
public import proofs.«01_k».proof.Proof.KI.Place
public import proofs.«01_k».proof.Proof.Tiles

@[expose] public section

set_option maxRecDepth 16384

noncomputable section

namespace Cert.Proof.KernelIdeal

open Cert.KernelIdeal Cert.KernelIdeal.Gen
open Idealize.ShloMosaic

/-- How many phases follow the first. -/
theorem t1_trips (n : BitVec 32) (M : ℕ) (hn : Affine.IsInt n M) (hM : M < 1600) : (k0_t1_loop n).trips = M / 32 := by
  have d : (32#32 : BitVec 32).toInt = 32 := by decide
  have hn' : n.toInt = M := by have := hn; unfold Affine.IsInt at this; exact this
  have f : Affine.IsInt (floorDiv 32#32 n) ((M / 32 : ℕ) : ℤ) := Affine.relit (floorDiv_isInt 32#32 n (by decide) (by omega)) (by rw [d]; omega)
  have l : Affine.IsInt (k0_t1_loop n).lb (1 : ℕ) := one_isInt
  have u : Affine.IsInt (k0_t1_loop n).ub ((M / 32 + 1 : Nat) : Int) := sum_isInt 1#32 (floorDiv 32#32 n) 1 _ l f (by omega) (by omega)
  have s : Affine.IsInt (k0_t1_loop n).st 1 := one_isInt
  unfold Affine.IsInt at l u s
  unfold Scf.Loop.trips Scf.trips
  rw [l, u]
  push_cast
  omega

theorem t4_trips (n : BitVec 32) (M : ℕ) (hn : Affine.IsInt n M) (hM : M < 1600) : (k0_t4_loop n).trips = M / 32 :=
  t1_trips n M hn hM

/-- The place a later phase looks for. -/
theorem place_isInt (k : ℕ) (hk : k < 50) : Affine.IsInt (Scalar.muli (Scf.iv 1#32 1#32 k) 32#32) ((32 * (k + 1) : ℕ) : ℤ) :=
  Affine.muli (Affine.iv (e := ((k + 1 : ℕ) : ℤ)) one_isInt one_isInt k ⟨by omega, by omega, by omega⟩) (Affine.ofNat 32 ⟨rfl, by decide⟩)
    ⟨by push_cast; ring, by push_cast; omega, by push_cast; omega⟩

section
variable (d : IVec S1x1600 32)

theorem count_sum (s : ℕ) (a : Fin 1600 → EReal) (ha : ∀ j, a j = 1) : ∑ j, a j * sel d s j = ((Runs.count (num d) s : ℕ) : EReal) := by
  rw [Runs.count, Finset.natCast_card_filter]
  exact Finset.sum_congr rfl fun j _ => by rw [ha, one_mul]; rfl

theorem phase_eq (p : Fin 1600 → BitVec 32) (hp : ∀ j, p j = BitVec.ofNat 32 (Runs.place (num d) j)) (q : BitVec 32) (Q : ℕ) (hq : Affine.IsInt q Q)
    (cnt : EReal) (s : ℕ) (hc : cnt = ((Runs.count (num d) s : ℕ) : EReal)) (v : Fin 1600 → EReal) (w : EReal) :
    phase p q cnt (sel d s) v w = if Q < Runs.count (num d) s then
      max w (∑ x, if Runs.place (num d) x = Q ∧ num d x = s then v x else 0) else w := by
  have hQ : q.toInt = Q := by have := hq; unfold Affine.IsInt at this; exact this
  have hqn := Affine.nat_eq hq Q rfl
  have e1 : (((q.toInt : ℝ) : EReal) < cnt) ↔ Q < Runs.count (num d) s := by
    rw [hQ, hc]; norm_cast
  have e2 : ∀ x, (if p x = q then sel d s x * v x else 0) = if Runs.place (num d) x = Q ∧ num d x = s then v x else 0 := fun x => by
    have e3 : p x = q ↔ Runs.place (num d) x = Q := by
      have := Runs.place_lt (d := num d) x
      rw [hp, ← BitVec.toNat_inj, hqn, BitVec.toNat_ofNat]; omega
    simp only [e3]
    by_cases h : Runs.place (num d) x = Q
    · by_cases h' : num d x = s
      · rw [if_pos h, if_pos ⟨h, h'⟩, sel, if_pos h', one_mul]
      · rw [if_pos h, if_neg (fun hh => h' hh.2), sel, if_neg h', zero_mul]
    · rw [if_neg h, if_neg (fun hh => h hh.1)]
  unfold phase
  simp only [e1, e2]

/-- `f` is `f0` joined, in the tiles of `T`, with the values `lin` of the rows whose place is below `Q`. -/
def Joined (T : ℕ → Prop) (Q : ℕ) (lin : Fin 1600 → Fin 256 → EReal) (f0 f : Vec Ideal S250x160x256 .f32) : Prop :=
  ∀ (t : Fin 250) (r : Fin 160) (l : Fin 256) (u : EReal), f (ix3 t r l) ≤ u ↔
    f0 (ix3 t r l) ≤ u ∧ ∀ i, T t.val → num d i = ((160 * t.val + r.val : ℕ) : ℤ) → Runs.place (num d) i < Q → lin i l ≤ u

variable {d}
variable (hm : Monotone (num d)) {lin : Fin 1600 → Fin 256 → EReal} {v : FVec Ideal S1600x256 .bf16}
  (hv : ∀ j l, Runs.Top (fun i => lin i l) (Runs.After (num d) 32 j) (v (ix2 j l)))
include hm hv

theorem joined_step (T : ℕ → Prop) (Q : ℕ) (f0 f f' : Vec Ideal S250x160x256 .f32) (h : Joined d T Q lin f0 f)
    (hin : ∀ (t : Fin 250) (r : Fin 160) (l : Fin 256), T t.val → f' (ix3 t r l) = if Q < Runs.count (num d) ((160 * t.val + r.val : ℕ) : ℤ) then
      max (f (ix3 t r l)) (∑ x, if Runs.place (num d) x = Q ∧ num d x = ((160 * t.val + r.val : ℕ) : ℤ) then v (ix2 x l) else 0) else f (ix3 t r l))
    (hout : ∀ (t : Fin 250) (r : Fin 160) (l : Fin 256), ¬ T t.val → f' (ix3 t r l) = f (ix3 t r l)) : Joined d T (Q + 32) lin f0 f' := by
  intro t r l u
  by_cases ht : T t.val
  · have := Runs.phase_step hm 32 (fun j => v (ix2 j l)) (fun j => hv j l) ((160 * t.val + r.val : ℕ) : ℤ) Q (f0 (ix3 t r l)) (f (ix3 t r l)) (f' (ix3 t r l))
      (fun u => (h t r l u).trans (and_congr_right fun _ => ⟨fun a i => a i ht, fun a i _ => a i⟩)) (hin t r l ht) u
    exact this.trans (and_congr_right fun _ => ⟨fun a i _ => a i, fun a i => a i ht⟩)
  · rw [hout t r l ht]
    exact (h t r l u).trans (and_congr_right fun _ => ⟨fun a i b => absurd b ht, fun a i b => absurd b ht⟩)

end

theorem joined_zero (d : IVec S1x1600 32) (T : ℕ → Prop) (lin : Fin 1600 → Fin 256 → EReal) (f : Vec Ideal S250x160x256 .f32) : Joined d T 0 lin f f :=
  fun t r l u => ⟨fun h => ⟨h, fun i _ _ h => absurd h (Nat.not_lt_zero _)⟩, fun h => h.1⟩

/-- Once `Q` exceeds every place, tiles joined one after another are tiles joined together. -/
theorem joined_more (d : IVec S1x1600 32) (T T' T'' : ℕ → Prop) (hT : ∀ t, T'' t ↔ T t ∨ T' t) (Q : ℕ) (lin : Fin 1600 → Fin 256 → EReal) (f0 f f' : Vec Ideal S250x160x256 .f32)
    (h : Joined d T Q lin f0 f) (h' : Joined d T' Q lin f f') : Joined d T'' Q lin f0 f' := fun t r l u => by
  rw [h' t r l u, h t r l u, and_assoc]
  refine and_congr_right fun _ => ⟨fun ⟨a, b⟩ i ht => ?_, fun a => ⟨fun i ht => a i ((hT _).mpr (.inl ht)), fun i ht => a i ((hT _).mpr (.inr ht))⟩⟩
  rcases (hT _).mp ht with ht | ht
  · exact a i ht
  · exact b i ht

section
variable {d : IVec S1x1600 32} (hd : ∀ j, InRange (d (ix2 0 j))) (hm : Monotone (num d)) {lin : Fin 1600 → Fin 256 → EReal} {v : FVec Ideal S1600x256 .bf16}
  (hv : ∀ j l, Runs.Top (fun i => lin i l) (Runs.After (num d) 32 j) (v (ix2 j l)))
  {p : IVec S1x1600 32} (hp : ∀ j, p (ix2 0 j) = BitVec.ofNat 32 (Runs.place (num d) j))
  {n : BitVec 32} {M : ℕ} (hn : Affine.IsInt n M) (hM : M < 1600)
  {a : FVec Ideal S4x1600 .f32} (ha : ∀ j, a (ix2 3 j) = 1)
  {lo hi : BitVec 32} (hlo : InRange lo) (hhi : InRange hi)
include hd hm hv hp hn hM ha hlo

/-- The two tiles a block starts with. -/
theorem pairF_joined (h1 : k0_chk1 n lo) (f : Vec Ideal S250x160x256 .f32) :
    Joined d (fun t => firstTile lo ≤ t ∧ t < firstTile lo + 2) (32 * (M / 32 + 1)) lin f
      (pairF p n v (k0_pay29 (F := Ideal) d (tileOf lo)) (k0_pay30 (F := Ideal) d a (tileOf lo)) lo h1 f) := by
  have hl := firstTile_le lo
  have ht : Affine.IsInt (Scalar.minsi (tileOf lo) 248#32) (firstTile lo : ℕ) := first_isInt lo hlo
  have hs : ∀ r : Fin 320, (fun j => k0_pay29 (F := Ideal) d (tileOf lo) (ix2 r j)) = sel d (160 * firstTile lo + r.val) := fun r =>
    funext fun j => pay29_apply d hd _ _ ht (by omega) r j
  have hc : ∀ r : Fin 320, k0_pay30 (F := Ideal) d a (tileOf lo) (ix2 3 r) = ((Runs.count (num d) ((160 * firstTile lo + r.val : ℕ) : ℤ) : ℕ) : EReal) := fun r =>
    (pay30_apply d hd a _ _ ht (by omega) 3 r).trans (count_sum d _ _ ha)
  have key : ∀ (q : BitVec 32) (Q : ℕ) (hq : Affine.IsInt q Q) (f0 g g' : Vec Ideal S250x160x256 .f32) (off) (hoff : off = ![firstTile lo, 0, 0]) (inb)
      (pay : Vec Ideal S2x160x256 .f32 → FVec Ideal S2x160x256 .f32)
      (hpay : ∀ w (b : Fin 2) (r : Fin 160) (l : Fin 256), pay w (ix3 b r l) = phase (fun j => p (ix2 0 j)) q
        (k0_pay30 (F := Ideal) d a (tileOf lo) (ix2 3 ⟨b.val * 160 + r.val, by omega⟩))
        (fun j => k0_pay29 (F := Ideal) d (tileOf lo) (ix2 ⟨b.val * 160 + r.val, by omega⟩ j)) (fun j => v (ix2 j l)) (w (ix3 b r l)))
      (hg : g' = VecWindow.put g off S2x160x256.size (pay (VecWindow.window g off S2x160x256.size inb)))
      (h : Joined d (fun t => firstTile lo ≤ t ∧ t < firstTile lo + 2) Q lin f0 g),
      Joined d (fun t => firstTile lo ≤ t ∧ t < firstTile lo + 2) (Q + 32) lin f0 g' := by
    intro q Q hq f0 g g' off hoff inb pay hpay hg h
    refine joined_step hm hv _ Q f0 g g' h (fun t r l htt => ?_) (fun t r l htt => ?_)
    · rw [hg]
      refine (put_tile g off (firstTile lo) hoff _ t r l).trans ?_
      rw [dif_pos htt, hpay, hs, hc, phase_eq d _ hp q Q hq _ _ rfl]
      have e1 : 160 * firstTile lo + ((t.val - firstTile lo) * 160 + r.val) = 160 * t.val + r.val := by omega
      have e2 := window_tile g off (firstTile lo) hoff inb ⟨t.val - firstTile lo, by omega⟩ (by simp only; omega) r l
      have e3 : (⟨firstTile lo + (t.val - firstTile lo), by omega⟩ : Fin 250) = t := Fin.ext (by simp only; omega)
      have e4 : VecWindow.window g off S2x160x256.size inb (ix3 ⟨t.val - firstTile lo, by omega⟩ r l) = g (ix3 t r l) := e2.trans (by rw [e3])
      simp only [e1, e4]
    · rw [hg]
      refine (put_tile g off (firstTile lo) hoff _ t r l).trans ?_
      rw [dif_neg htt]
  have h0 := key 0#32 0 (Affine.ofNat 0 ⟨rfl, by decide⟩) f f (pairF0 p n v (k0_pay29 (F := Ideal) d (tileOf lo)) (k0_pay30 (F := Ideal) d a (tileOf lo)) lo h1 f)
    (k0_off3 lo) (off3_eq lo hlo) (k0_off3_inb _ _ h1) _ (fun w b r l => pay34_apply p v _ _ w b r l) rfl (joined_zero d _ lin f)
  have hk := t1_trips n M hn hM
  have := iter_induction (stepT1 p n v (k0_pay29 (F := Ideal) d (tileOf lo)) (k0_pay30 (F := Ideal) d a (tileOf lo)) lo h1)
    (pairF0 p n v (k0_pay29 (F := Ideal) d (tileOf lo)) (k0_pay30 (F := Ideal) d a (tileOf lo)) lo h1 f)
    (fun k g => Joined d (fun t => firstTile lo ≤ t ∧ t < firstTile lo + 2) (32 * (k + 1)) lin f g) h0
    (fun k g hg => key _ (32 * (k.val + 1)) (place_isInt k.val (by have := lt_of_lt_of_eq k.isLt hk; omega)) f g _
      (k0_off4 lo) (off4_eq lo hlo) (k0_off4_inb _ _ h1 k) _ (fun w b r l => pay35_apply p n v _ _ k w b r l) rfl hg) _ le_rfl
  have hq : 32 * ((k0_t1_loop n).trips + 1) = 32 * (M / 32 + 1) := by rw [hk]
  exact hq ▸ this

include hhi

/-- One further tile. -/
theorem tileF_joined (h3 : k0_chk3 n lo hi) (j : Fin (k0_t3_loop lo hi).trips) (f : Vec Ideal S250x160x256 .f32) :
    Joined d (fun t => t = firstTile lo + 2 + j.val) (32 * (M / 32 + 1)) lin f
      (stepT3f d p n v a lo hi h3 (iota .tc S160x1600 32 [0] iota_S160x1600_d0_w32) (Scalar.addi (Scalar.minsi (tileOf lo) 248#32) 2#32) j f) := by
  obtain ⟨ht, hl⟩ := iv_isInt lo hi hlo hhi j
  set o := firstTile lo + 2 + j.val with ho
  have ht' : Affine.IsInt (Scf.iv (Scalar.addi (Scalar.minsi (tileOf lo) 248#32) 2#32) 1#32 j.val) (o : ℕ) := ht
  have hs : ∀ r : Fin 160, (fun i => k0_pay3 (F := Ideal) d lo hi (iota .tc S160x1600 32 [0] iota_S160x1600_d0_w32)
      (Scalar.addi (Scalar.minsi (tileOf lo) 248#32) 2#32) 1#32 j (ix2 r i)) = sel d (160 * o + r.val) := fun r =>
    funext fun i => pay3_apply d hd lo hi _ j o ht' hl r i
  have hc : ∀ r : Fin 160, k0_pay6 (F := Ideal) d a lo hi (iota .tc S160x1600 32 [0] iota_S160x1600_d0_w32)
      (Scalar.addi (Scalar.minsi (tileOf lo) 248#32) 2#32) 1#32 j (ix2 r 0) = ((Runs.count (num d) ((160 * o + r.val : ℕ) : ℤ) : ℕ) : EReal) := fun r =>
    (pay6_apply d hd lo hi _ j o ht' hl a r).trans (count_sum d _ _ ha)
  have key : ∀ (q : BitVec 32) (Q : ℕ) (hq : Affine.IsInt q Q) (f0 g g' : Vec Ideal S250x160x256 .f32) (off) (hoff : off = ![o, 0, 0]) (inb)
      (pay : Vec Ideal S1x160x256 .f32 → FVec Ideal S1x160x256 .f32)
      (hpay : ∀ w (r : Fin 160) (l : Fin 256), pay w (ix3 0 r l) = phase (fun j => p (ix2 0 j)) q
        (k0_pay6 (F := Ideal) d a lo hi (iota .tc S160x1600 32 [0] iota_S160x1600_d0_w32) (Scalar.addi (Scalar.minsi (tileOf lo) 248#32) 2#32) 1#32 j (ix2 r 0))
        (fun i => k0_pay3 (F := Ideal) d lo hi (iota .tc S160x1600 32 [0] iota_S160x1600_d0_w32) (Scalar.addi (Scalar.minsi (tileOf lo) 248#32) 2#32) 1#32 j (ix2 r i))
        (fun j => v (ix2 j l)) (w (ix3 0 r l)))
      (hg : g' = VecWindow.put g off S1x160x256.size (pay (VecWindow.window g off S1x160x256.size inb)))
      (h : Joined d (fun t => t = o) Q lin f0 g), Joined d (fun t => t = o) (Q + 32) lin f0 g' := by
    intro q Q hq f0 g g' off hoff inb pay hpay hg h
    refine joined_step hm hv _ Q f0 g g' h (fun t r l htt => ?_) (fun t r l htt => ?_)
    · rw [hg]
      refine (put_tile g off o hoff _ t r l).trans ?_
      have e0 : (⟨t.val - o, by omega⟩ : Fin 1) = 0 := Subsingleton.elim _ _
      rw [dif_pos (⟨by omega, by omega⟩ : o ≤ t.val ∧ t.val < o + 1), e0, hpay, hs, hc, phase_eq d _ hp q Q hq _ _ rfl]
      have e2 := window_tile g off o hoff inb (0 : Fin 1) (by simp only [Fin.val_zero]; omega) r l
      have e3 : (⟨o + (0 : Fin 1).val, by simp only [Fin.val_zero]; omega⟩ : Fin 250) = t := Fin.ext (by simp only [Fin.val_zero]; omega)
      have e4 : VecWindow.window g off S1x160x256.size inb (ix3 0 r l) = g (ix3 t r l) := e2.trans (by rw [e3])
      simp only [e4, htt]
    · rw [hg]
      refine (put_tile g off o hoff _ t r l).trans ?_
      rw [dif_neg (fun h => htt (by omega))]
  have h0 := key 0#32 0 (Affine.ofNat 0 ⟨rfl, by decide⟩) f f _
    (k0_off7 lo hi j) (off7_eq lo hi hlo hhi j) (k0_off7_inb _ _ _ h3 j) _ (fun w r l => pay7_apply d lo hi _ j p v a w _ r l) rfl (joined_zero d _ lin f)
  have hk := t4_trips n M hn hM
  have := iter_induction (stepT4 p n v lo hi h3 j (k0_pay3 (F := Ideal) d lo hi (iota .tc S160x1600 32 [0] iota_S160x1600_d0_w32) (Scalar.addi (Scalar.minsi (tileOf lo) 248#32) 2#32) 1#32 j)
      (k0_pay6 (F := Ideal) d a lo hi (iota .tc S160x1600 32 [0] iota_S160x1600_d0_w32) (Scalar.addi (Scalar.minsi (tileOf lo) 248#32) 2#32) 1#32 j)) _
    (fun k g => Joined d (fun t => t = o) (32 * (k + 1)) lin f g) h0
    (fun k g hg => key _ (32 * (k.val + 1)) (place_isInt k.val (by have := lt_of_lt_of_eq k.isLt hk; omega)) f g _
      (k0_off8 lo hi j) (off8_eq lo hi hlo hhi j) (k0_off8_inb _ _ _ h3 j k) _ (fun w r l => pay37_apply p n v _ _ k w r l) rfl hg) _ le_rfl
  have hq : 32 * ((k0_t4_loop n).trips + 1) = 32 * (M / 32 + 1) := by rw [hk]
  exact hq ▸ this

/-- All tiles of the block. -/
theorem restF_joined (h1 : k0_chk1 n lo) (h3 : k0_chk3 n lo hi) (f : Vec Ideal S250x160x256 .f32) :
    Joined d (fun t => firstTile lo ≤ t ∧ t < firstTile lo + 2 + (k0_t3_loop lo hi).trips) (32 * (M / 32 + 1)) lin f
      (restF d p n v a lo hi h3 (iota .tc S160x1600 32 [0] iota_S160x1600_d0_w32) (Scalar.minsi (tileOf lo) 248#32)
        (pairF p n v (k0_pay29 (F := Ideal) d (tileOf lo)) (k0_pay30 (F := Ideal) d a (tileOf lo)) lo h1 f)) :=
  iter_induction (stepT3f d p n v a lo hi h3 (iota .tc S160x1600 32 [0] iota_S160x1600_d0_w32) (Scalar.addi (Scalar.minsi (tileOf lo) 248#32) 2#32)) _
    (fun k g => Joined d (fun t => firstTile lo ≤ t ∧ t < firstTile lo + 2 + k) (32 * (M / 32 + 1)) lin f g)
    (pairF_joined hd hm hv hp hn hM ha hlo h1 f)
    (fun k g hg => joined_more d _ _ _ (fun t => by constructor <;> intro h <;> omega) _ lin f g _ hg
      (tileF_joined hd hm hv hp hn hM ha hlo hhi h3 k g)) _ le_rfl

/-- What the block does to the maxima: every segment's is joined with the block's rows of that segment. -/
theorem restF_apply (hplace : ∀ j, Runs.place (num d) j ≤ M) (hfirst : ∀ j, lo.toInt ≤ num d j) (hlast : ∀ j, num d j ≤ hi.toInt)
    (h1 : k0_chk1 n lo) (h3 : k0_chk3 n lo hi) (f : Vec Ideal S250x160x256 .f32) (t : Fin 250) (r : Fin 160) (l : Fin 256) (u : EReal) :
    restF d p n v a lo hi h3 (iota .tc S160x1600 32 [0] iota_S160x1600_d0_w32) (Scalar.minsi (tileOf lo) 248#32)
        (pairF p n v (k0_pay29 (F := Ideal) d (tileOf lo)) (k0_pay30 (F := Ideal) d a (tileOf lo)) lo h1 f) (ix3 t r l) ≤ u ↔
      f (ix3 t r l) ≤ u ∧ ∀ i, num d i = ((160 * t.val + r.val : ℕ) : ℤ) → lin i l ≤ u := by
  refine (restF_joined hd hm hv hp hn hM ha hlo hhi h1 h3 f t r l u).trans (and_congr_right fun _ => ⟨fun x i hi => x i ?_ hi ?_, fun x i _ hi _ => x i hi⟩)
  · have e1 : (lo.toNat : Int) = lo.toInt := Affine.toNat_of (Affine.word lo) hlo.1
    have e2 := Affine.toNat_of (Affine.word _) hhi.1
    have a1 := hfirst i
    have a2 := hlast i
    have := t3_trips lo _ hlo hhi
    rw [this]
    unfold firstTile
    rw [hi] at a1 a2
    have := t.isLt
    have := r.isLt
    omega
  · have := hplace i
    omega

end

/-! ## The sums -/

/-- What a block's rows add to a sum. -/
def added (d : IVec S1x1600 32) (a : FVec Ideal S4x1600 .f32) (q : Fin 4) (s : ℕ) : EReal := ∑ j, a (ix2 q j) * sel d s j

/-- `g` is `g0` with the block's rows added in the tiles of `T`. -/
def Added (d : IVec S1x1600 32) (a : FVec Ideal S4x1600 .f32) (T : ℕ → Prop) (g0 g : Vec Ideal S250x4x160 .f32) : Prop :=
  ∀ (t : Fin 250) (q : Fin 4) (r : Fin 160), (T t.val → g (ix3 t q r) = g0 (ix3 t q r) + added d a q (160 * t.val + r.val)) ∧
    (¬ T t.val → g (ix3 t q r) = g0 (ix3 t q r))

theorem added_one (d : IVec S1x1600 32) (a : FVec Ideal S4x1600 .f32) (T T' : ℕ → Prop) (o : ℕ) (ho : o < 250) (hT : ∀ t, T' t ↔ T t ∨ t = o) (hn : ¬ T o)
    (g0 g : Vec Ideal S250x4x160 .f32) (h : Added d a T g0 g) (off) (hoff : off = ![o, 0, 0]) (inb)
    (pay : Vec Ideal S1x4x160 .f32 → FVec Ideal S1x4x160 .f32)
    (hpay : ∀ w (q : Fin 4) (r : Fin 160), pay w (ix3 0 q r) = w (ix3 0 q r) + added d a q (160 * o + r.val)) :
    Added d a T' g0 (VecWindow.put g off S1x4x160.size (pay (VecWindow.window g off S1x4x160.size inb))) := by
  intro t q r
  by_cases ht : t.val = o
  · refine ⟨fun _ => ?_, fun hh => absurd ((hT _).mpr (.inr ht)) hh⟩
    refine (put_tile g off o hoff _ t q r).trans ?_
    have e0 : (⟨t.val - o, by omega⟩ : Fin 1) = 0 := Subsingleton.elim _ _
    rw [dif_pos (⟨by omega, by omega⟩ : o ≤ t.val ∧ t.val < o + 1), e0, hpay]
    have e2 := window_tile g off o hoff inb (0 : Fin 1) (by simp only [Fin.val_zero]; omega) q r
    have e3 : (⟨o + (0 : Fin 1).val, by simp only [Fin.val_zero]; omega⟩ : Fin 250) = t := Fin.ext (by simp only [Fin.val_zero]; omega)
    have e4 : VecWindow.window g off S1x4x160.size inb (ix3 0 q r) = g (ix3 t q r) := e2.trans (by rw [e3])
    rw [e4, (h t q r).2 (ht ▸ hn), ht]
  · have e : VecWindow.put g off S1x4x160.size (pay (VecWindow.window g off S1x4x160.size inb)) (ix3 t q r) = g (ix3 t q r) := by
      refine (put_tile g off o hoff _ t q r).trans ?_
      rw [dif_neg (fun h => ht (by omega))]
    refine ⟨fun hh => ?_, fun hh => ?_⟩
    · rw [e]; exact (h t q r).1 (((hT _).mp hh).resolve_right ht)
    · rw [e]; exact (h t q r).2 fun h' => hh ((hT _).mpr (.inl h'))

section
variable {d : IVec S1x1600 32} (hd : ∀ j, InRange (d (ix2 0 j))) {n : BitVec 32} {a : FVec Ideal S4x1600 .f32}
  {lo hi : BitVec 32} (hlo : InRange lo) (hhi : InRange hi)
include hd hlo hhi

/-- What the block does to the sums. -/
theorem restG_added (h3 : k0_chk3 n lo hi) (g0 g : Vec Ideal S250x4x160 .f32) (hg : Added d a (fun t => firstTile lo ≤ t ∧ t < firstTile lo + 2) g0 g) :
    Added d a (fun t => firstTile lo ≤ t ∧ t < firstTile lo + 2 + (k0_t3_loop lo hi).trips) g0
      (restG d n a lo hi h3 (iota .tc S160x1600 32 [0] iota_S160x1600_d0_w32) (Scalar.minsi (tileOf lo) 248#32) g) :=
  iter_induction (stepT3g d n a lo hi h3 (iota .tc S160x1600 32 [0] iota_S160x1600_d0_w32) (Scalar.addi (Scalar.minsi (tileOf lo) 248#32) 2#32)) g
    (fun k g => Added d a (fun t => firstTile lo ≤ t ∧ t < firstTile lo + 2 + k) g0 g) hg
    (fun k g hg => by
      obtain ⟨ht, hl⟩ := iv_isInt lo hi hlo hhi k
      exact added_one d a _ _ (firstTile lo + 2 + k.val) (by omega) (fun t => by constructor <;> intro h <;> omega) (by omega) g0 g hg _ (off6_eq lo hi hlo hhi k) _ _
        (fun w q r => pay5_apply d hd lo hi _ k _ ht hl a w q r)) _ le_rfl

end

theorem added_zero (d : IVec S1x1600 32) (a : FVec Ideal S4x1600 .f32) (q : Fin 4) (s : ℕ) (h : ∀ j, num d j ≠ s) : added d a q s = 0 :=
  Finset.sum_eq_zero fun j _ => by rw [sel, if_neg (h j), mul_zero]

/-- The block's effect on the maxima, in its own terms. -/
theorem midF_apply (x1 : Vec Ideal S1x1x2 .i32) (x3 : Vec Ideal S1x4x1600 .f32) (x5 : Vec Ideal S1x1x1600 .i32) (v : FVec Ideal S1600x256 .bf16)
    (h1 : k0_chk1 (topOf (F := Ideal) x5) (loOf (F := Ideal) x1)) (h3 : k0_chk3 (topOf (F := Ideal) x5) (loOf (F := Ideal) x1) (hiOf (F := Ideal) x1))
    (hd : ∀ j, InRange (idsOf (F := Ideal) x5 (ix2 0 j))) (hm : Monotone (num (idsOf (F := Ideal) x5))) {lin : Fin 1600 → Fin 256 → EReal}
    (hv : ∀ j l, Runs.Top (fun i => lin i l) (Runs.After (num (idsOf (F := Ideal) x5)) 32 j) (v (ix2 j l)))
    (ha : ∀ j, augOf x3 (ix2 3 j) = 1) (hlo : InRange (loOf (F := Ideal) x1)) (hhi : InRange (hiOf (F := Ideal) x1))
    (hfirst : ∀ j, (loOf (F := Ideal) x1).toInt ≤ num (idsOf (F := Ideal) x5) j) (hlast : ∀ j, num (idsOf (F := Ideal) x5) j ≤ (hiOf (F := Ideal) x1).toInt)
    (f : Vec Ideal S250x160x256 .f32) (t : Fin 250) (r : Fin 160) (l : Fin 256) (u : EReal) :
    midF x1 x3 x5 v h1 h3 f (ix3 t r l) ≤ u ↔ f (ix3 t r l) ≤ u ∧ ∀ i, num (idsOf (F := Ideal) x5) i = ((160 * t.val + r.val : ℕ) : ℤ) → lin i l ≤ u := by
  obtain ⟨M, hM, hlt, hle⟩ := topOf_apply x5 hd hm
  exact restF_apply hd hm hv (placeOf_apply x5 hd hm) (hM ▸ Affine.ofNat M ⟨rfl, by omega⟩) hlt ha hlo hhi hle hfirst hlast h1 h3 f t r l u

/-- The block's effect on the sums, in its own terms. -/
theorem midG_apply (x1 : Vec Ideal S1x1x2 .i32) (x3 : Vec Ideal S1x4x1600 .f32) (x5 : Vec Ideal S1x1x1600 .i32)
    (h1 : k0_chk1 (topOf (F := Ideal) x5) (loOf (F := Ideal) x1)) (h3 : k0_chk3 (topOf (F := Ideal) x5) (loOf (F := Ideal) x1) (hiOf (F := Ideal) x1))
    (hd : ∀ j, InRange (idsOf (F := Ideal) x5 (ix2 0 j))) (hlo : InRange (loOf (F := Ideal) x1)) (hhi : InRange (hiOf (F := Ideal) x1))
    (hfirst : ∀ j, (loOf (F := Ideal) x1).toInt ≤ num (idsOf (F := Ideal) x5) j) (hlast : ∀ j, num (idsOf (F := Ideal) x5) j ≤ (hiOf (F := Ideal) x1).toInt)
    (g : Vec Ideal S250x4x160 .f32) (t : Fin 250) (q : Fin 4) (r : Fin 160) :
    midG x1 x3 x5 h1 h3 g (ix3 t q r) = g (ix3 t q r) + added (idsOf (F := Ideal) x5) (augOf x3) q (160 * t.val + r.val) := by
  have hl := firstTile_le (loOf (F := Ideal) x1)
  have ht : Affine.IsInt (Scalar.minsi (tileOf (loOf (F := Ideal) x1)) 248#32) (firstTile (loOf (F := Ideal) x1) : ℕ) := first_isInt _ hlo
  have g0 : Added (idsOf (F := Ideal) x5) (augOf x3) (fun t => False) g g := fun t q r => ⟨False.elim, fun _ => rfl⟩
  have g1 : Added (idsOf (F := Ideal) x5) (augOf x3) (fun t => t = firstTile (loOf (F := Ideal) x1)) g (pairG1 x1 x3 x5 h1 g) :=
    added_one _ _ _ _ (firstTile (loOf (F := Ideal) x1)) (by omega) (fun t => by simp) id g g g0 _ (off1_eq _ hlo) _ _
      (fun w q r => (pay31_apply _ _ _ w q r).trans (by rw [pay30_apply _ hd _ _ _ ht (by omega)]; rfl))
  have g2 : Added (idsOf (F := Ideal) x5) (augOf x3) (fun t => firstTile (loOf (F := Ideal) x1) ≤ t ∧ t < firstTile (loOf (F := Ideal) x1) + 2) g (pairG x1 x3 x5 h1 g) :=
    added_one _ _ _ _ (firstTile (loOf (F := Ideal) x1) + 1) (by omega) (fun t => by omega) (by omega) g _ g1 _ (off2_eq _ hlo) _ _
      (fun w q r => (pay32_apply _ _ _ w q r).trans (by
        rw [pay30_apply _ hd _ _ _ ht (by omega)]
        show _ + added _ _ _ (160 * firstTile _ + (160 + r.val)) = _
        rw [show 160 * firstTile (loOf (F := Ideal) x1) + (160 + r.val) = 160 * (firstTile (loOf (F := Ideal) x1) + 1) + r.val by ring]))
  have g3 := restG_added hd hlo hhi h3 g _ g2 t q r
  by_cases htt : firstTile (loOf (F := Ideal) x1) ≤ t.val ∧ t.val < firstTile (loOf (F := Ideal) x1) + 2 + (k0_t3_loop (loOf (F := Ideal) x1) (hiOf (F := Ideal) x1)).trips
  · exact g3.1 htt
  · refine (g3.2 htt).trans ?_
    rw [added_zero, add_zero]
    intro i hi
    apply htt
    have e1 : ((loOf (F := Ideal) x1).toNat : Int) = (loOf (F := Ideal) x1).toInt := Affine.toNat_of (Affine.word _) hlo.1
    have e2 : ((hiOf (F := Ideal) x1).toNat : Int) = (hiOf (F := Ideal) x1).toInt := Affine.toNat_of (Affine.word _) hhi.1
    have a1 := hfirst i
    have a2 := hlast i
    rw [t3_trips _ _ hlo hhi]
    unfold firstTile
    rw [hi] at a1 a2
    have := t.isLt
    have := r.isLt
    omega

end Cert.Proof.KernelIdeal
-- ==== Proof.KI.State.lean ====
/- What the two results' buffers hold after all blocks: over each segment's rows the maximum of the products and the sum of the coordinates. -/
module

public import proofs.«01_k».proof.Proof.Linear
public import proofs.«01_k».proof.Proof.KI.Bits
public import proofs.«01_k».proof.Proof.KI.Block
public import proofs.«01_k».proof.Proof.KI.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable (m : (ℓ : Loc nD τ sig) → Buf (Elt Ideal) ℓ) (hr : IdsInRange m)

/-- The segment of a row, as a number. -/
def seg (c : Dev nD) (n : Fin 320000) : ℤ := (idsArg m c (ix1 n)).toInt

/-- The segments come in order. -/
def IdsSorted : Prop := ∀ c, Monotone (seg m c)

/-- The product of a row and a column, as the kernel computes it. -/
def lin (c : Dev nD) (n : Fin 320000) (l : Fin 256) : EReal :=
  Linear.linear (Linear.byFactor (fun k => featsArg m c (ix2 n k)) (fun k => gammaArg m c (ix1 k)) (fun k => betaArg m c (ix1 k)))
    (fun k l => weightArg m c (ix2 k l)) (fun l => biasArg m c (ix1 l)) l

/-- The row a block's row is. -/
def nthRow (t : ℕ) (ht : t < 200) (j : Fin 1600) : Fin 320000 := ⟨t * 1600 + j, by omega⟩

/-! ## One block's reads -/

theorem linOf_of (x : Vec Ideal S1600x128 .f32) (g b : Vec Ideal S1x128 .f32) (w : Vec Ideal S128x256 .bf16) (v : Vec Ideal S1x256 .f32)
    (j : Fin 1600) (l : Fin 256) (X G B : Fin 128 → EReal) (W : Fin 128 → Fin 256 → EReal) (V : Fin 256 → EReal)
    (hx : ∀ k, x (ix2 j k) = X k) (hg : ∀ k, g (ix2 0 k) = G k) (hb : ∀ k, b (ix2 0 k) = B k) (hw : ∀ k l, w (ix2 k l) = W k l)
    (hv : ∀ l, v (ix2 0 l) = V l) : linOf x g b w v (ix2 j l) = Linear.linear (Linear.byFactor X G B) W V l := by
  unfold linOf
  pointwise [k0_pay15]
  simp only [hx, hg, hb, hw, hv]
  rfl

theorem linOf_apply (c : Dev nD) (t : Fin cfg0.N) (j : Fin 1600) (l : Fin 256) :
    linOf (F := Ideal) (iblk m c 1 t) (iblk m c 5 t) (iblk m c 6 t) (iblk m c 7 t) (iblk m c 8 t) (ix2 j l) = lin m c (nthRow t.val t.isLt j) l :=
  linOf_of _ _ _ _ _ j l _ _ _ _ _ (feats_block m c t j) (gamma_block m c t) (beta_block m c t) (weight_block m c t) (bias_block m c t)

theorem num_ids (c : Dev nD) (t : Fin cfg0.N) (j : Fin 1600) :
    num (idsOf (F := Ideal) (iblk m c 4 t)) j = seg m c (nthRow t.val t.isLt j) := by
  have e : idsOf (F := Ideal) (iblk m c 4 t) (ix2 0 j) = iblk m c 4 t (ix3 0 0 j) := by
    unfold idsOf
    pointwise [k0_pay17]
  unfold num seg nthRow
  rw [e, ids_block m c t j]

theorem augOf_apply (x : Vec Ideal S1x4x1600 .f32) (q : Fin 4) (j : Fin 1600) : augOf x (ix2 q j) = x (ix3 0 q j) := by
  unfold augOf
  pointwise [k0_pay28]

/-- The coordinates of a row, and a one. -/
def aug (c : Dev nD) (q : Fin 4) (n : Fin 320000) : EReal := if h : q.val < 3 then coordsArg m c (ix2 n ⟨q, h⟩) else 1

theorem aug_eq (c : Dev nD) (t : Fin cfg0.N) (q : Fin 4) (j : Fin 1600) : iblk m c 2 t (ix3 0 q j) = aug m c q (nthRow t.val t.isLt j) := by
  unfold aug
  by_cases h : q.val < 3
  · rw [dif_pos h]
    exact aug_block m c t ⟨q, h⟩ j
  · rw [dif_neg h]
    have e : q = 3 := by omega
    rw [e]
    exact aug_block_one m c t j

theorem ids_mono (hs : IdsSorted m) (c : Dev nD) (t : Fin cfg0.N) : Monotone (num (idsOf (F := Ideal) (iblk m c 4 t))) := fun i j h => by
  rw [num_ids, num_ids]
  exact hs c (show t.val * 1600 + i.val ≤ t.val * 1600 + j.val from Nat.add_le_add_left h _)

include hr in
theorem ids_range (c : Dev nD) (t : Fin cfg0.N) (j : Fin 1600) : InRange (idsOf (F := Ideal) (iblk m c 4 t) (ix2 0 j)) := by
  have := num_ids m c t j
  have h := hr c (nthRow t.val t.isLt j)
  unfold num seg at this
  unfold InRange at h ⊢
  omega

theorem lo_first (hs : IdsSorted m) (c : Dev nD) (t : Fin cfg0.N) (j : Fin 1600) :
    (loOf (F := Ideal) (iblk m c 0 t)).toInt ≤ num (idsOf (F := Ideal) (iblk m c 4 t)) j := by
  rw [num_ids, lo_eq]
  exact hs c (show t.val * 1600 ≤ t.val * 1600 + j.val from Nat.le_add_right _ _)

theorem hi_last (hs : IdsSorted m) (c : Dev nD) (t : Fin cfg0.N) (j : Fin 1600) :
    num (idsOf (F := Ideal) (iblk m c 4 t)) j ≤ (hiOf (F := Ideal) (iblk m c 0 t)).toInt := by
  rw [num_ids, hi_eq]
  exact hs c (show t.val * 1600 + j.val ≤ t.val * 1600 + 1599 by omega)

/-! ## One block's work -/

/-- The block's work on the maxima, without what the first and the last block do besides. -/
def blockF (c : Dev nD) (t : Fin cfg0.N) (f : Vec Ideal S250x160x256 .f32) : Vec Ideal S250x160x256 .f32 :=
  midF (iblk m c 0 t) (iblk m c 2 t) (iblk m c 4 t)
    (sufOf (linOf (iblk m c 1 t) (iblk m c 5 t) (iblk m c 6 t) (iblk m c 7 t) (iblk m c 8 t)) (iblk m c 3 t))
    (chk1 _ _ (lo_range m hr c t)) (chk3 _ _ _ (lo_range m hr c t) (hi_range m hr c t)) f

/-- The block's work on the sums. -/
def blockG (c : Dev nD) (t : Fin cfg0.N) (g : Vec Ideal S250x4x160 .f32) : Vec Ideal S250x4x160 .f32 :=
  midG (iblk m c 0 t) (iblk m c 2 t) (iblk m c 4 t)
    (chk1 _ _ (lo_range m hr c t)) (chk3 _ _ _ (lo_range m hr c t) (hi_range m hr c t)) g

theorem blockF_apply (hs : IdsSorted m) (c : Dev nD) (t : Fin cfg0.N) (f : Vec Ideal S250x160x256 .f32) (a : Fin 250) (r : Fin 160) (l : Fin 256) (u : EReal) :
    blockF m hr c t f (ix3 a r l) ≤ u ↔ f (ix3 a r l) ≤ u ∧
      ∀ j, seg m c (nthRow t.val t.isLt j) = ((160 * a.val + r.val : ℕ) : ℤ) → lin m c (nthRow t.val t.isLt j) l ≤ u := by
  refine (midF_apply (lin := fun j l => lin m c (nthRow t.val t.isLt j) l) _ _ _ _ _ _ (ids_range m hr c t) (ids_mono m hs c t) (fun j l => ?_)
    (fun j => (augOf_apply _ _ _).trans (aug_block_one m c t j)) (lo_range m hr c t) (hi_range m hr c t) (lo_first m hs c t) (hi_last m hs c t) f a r l u).trans ?_
  · have := sufOf_apply _ (ids_mono m hs c t) (linOf (F := Ideal) (iblk m c 1 t) (iblk m c 5 t) (iblk m c 6 t) (iblk m c 7 t) (iblk m c 8 t)) (iblk m c 3 t)
      (fun k hk => bits_ok m c t k hk) j l
    simp only [linOf_apply] at this
    exact this
  · simp only [num_ids]

theorem blockG_apply (hs : IdsSorted m) (c : Dev nD) (t : Fin cfg0.N) (g : Vec Ideal S250x4x160 .f32) (a : Fin 250) (q : Fin 4) (r : Fin 160) :
    blockG m hr c t g (ix3 a q r) = g (ix3 a q r) + ∑ j, if seg m c (nthRow t.val t.isLt j) = ((160 * a.val + r.val : ℕ) : ℤ) then aug m c q (nthRow t.val t.isLt j) else 0 := by
  refine (midG_apply _ _ _ _ _ (ids_range m hr c t) (lo_range m hr c t) (hi_range m hr c t) (lo_first m hs c t) (hi_last m hs c t) g a q r).trans ?_
  unfold added sel
  congr 1
  refine Finset.sum_congr rfl fun j _ => ?_
  rw [augOf_apply, aug_eq, ← num_ids]
  unfold num
  split_ifs
  · exact mul_one _
  · exact mul_zero _

/-! ## All blocks -/

theorem coords_eq (t : Fin cfg0.N) (n : ℕ) (hn : n < 200) :
    (Scalar.cmpi .ne (Scalar.extui (Scalar.cmpi .eq (BitVec.ofNat 32 (grid0.coords t 0).val) (BitVec.ofNat 32 n))) 0#32 = 1#1) ↔ t.val = n := by
  rw [coords_val]
  have h : t.val < 200 := t.isLt
  have hw : ∀ b : BitVec 1, Scalar.cmpi .ne (Scalar.extui b : BitVec 32) 0#32 = 1#1 ↔ b = 1#1 := by decide
  rw [hw]
  show BitVec.ofBool (BitVec.ofNat 32 t.val == BitVec.ofNat 32 n) = 1#1 ↔ _
  constructor
  · intro e
    by_contra hne
    rw [beq_eq_false_iff_ne.mpr (fun e' => hne (by have := congrArg BitVec.toNat e'; rw [BitVec.toNat_ofNat, BitVec.toNat_ofNat] at this; omega))] at e
    exact absurd e (by decide)
  · intro e
    rw [e, beq_self_eq_true]
    rfl

theorem pointF_eq (c : Dev nD) (t : Fin cfg0.N) (f) (hf : t.val = 0 → f = k0_pay13 (F := Ideal)) :
    pointF m hr c t f = if t.val = 199 then k0_pay1 (blockF m hr c t f) else blockF m hr c t f := by
  have e : startF (F := Ideal) (grid0.coords t) f = f := by
    unfold startF
    split_ifs with h
    · exact (hf ((coords_eq t 0 (by decide)).mp h)).symm
    · rfl
  unfold pointF
  rw [e]
  unfold endF
  exact if_congr (coords_eq t 199 (by decide)) rfl rfl

theorem pointG_eq (c : Dev nD) (t : Fin cfg0.N) (g) (hg : t.val = 0 → g = k0_pay14 (F := Ideal)) :
    pointG m hr c t g = if t.val = 199 then k0_pay2 (blockG m hr c t g) else blockG m hr c t g := by
  have e : startG (F := Ideal) (grid0.coords t) g = g := by
    unfold startG
    split_ifs with h
    · exact (hg ((coords_eq t 0 (by decide)).mp h)).symm
    · rfl
  unfold pointG
  rw [e]
  unfold endG
  exact if_congr (coords_eq t 199 (by decide)) rfl rfl

/-- `f` holds the maxima over the rows of the first `k` blocks. -/
def MaxOf (c : Dev nD) (k : ℕ) (f : Vec Ideal S250x160x256 .f32) : Prop :=
  ∀ (a : Fin 250) (r : Fin 160) (l : Fin 256) (u : EReal),
    f (ix3 a r l) ≤ u ↔ ∀ n : Fin 320000, n.val < k * 1600 → seg m c n = ((160 * a.val + r.val : ℕ) : ℤ) → lin m c n l ≤ u

theorem maxOf_zero (c : Dev nD) : MaxOf m c 0 (k0_pay13 (F := Ideal)) := fun a r l u => by
  have e : k0_pay13 (F := Ideal) (ix3 a r l) = ⊥ := by
    pointwise [k0_pay13]
    rfl
  rw [e]
  exact ⟨fun _ n hn => absurd hn (by omega), fun _ => bot_le⟩

theorem maxOf_succ (hs : IdsSorted m) (c : Dev nD) (t : Fin cfg0.N) (f) (h : MaxOf m c t.val f) : MaxOf m c (t.val + 1) (blockF m hr c t f) := fun a r l u => by
  rw [blockF_apply m hr hs, h]
  have ht : t.val < 200 := t.isLt
  constructor
  · rintro ⟨h1, h2⟩ n hn e
    by_cases hlt : n.val < t.val * 1600
    · exact h1 n hlt e
    · have en : nthRow t.val t.isLt ⟨n.val - t.val * 1600, by omega⟩ = n := Fin.ext (by unfold nthRow; simp only; omega)
      have := h2 ⟨n.val - t.val * 1600, by omega⟩
      rw [en] at this
      exact this e
  · intro h
    exact ⟨fun n hn e => h n (by omega) e, fun j e => h _ (by unfold nthRow; simp only; omega) e⟩

/-- `g` holds the sums over the rows of the first `k` blocks. -/
def SumOf (c : Dev nD) (v : Fin 4 → Fin 320000 → EReal) (k : ℕ) (g : Vec Ideal S250x4x160 .f32) : Prop :=
  ∀ (a : Fin 250) (q : Fin 4) (r : Fin 160),
    g (ix3 a q r) = ∑ n : Fin 320000, if n.val < k * 1600 ∧ seg m c n = ((160 * a.val + r.val : ℕ) : ℤ) then v q n else 0

theorem sumOf_zero (c : Dev nD) (v) : SumOf m c v 0 (k0_pay14 (F := Ideal)) := fun a q r => by
  have e : k0_pay14 (F := Ideal) (ix3 a q r) = 0 := by pointwise [k0_pay14]
  rw [e]
  exact (Finset.sum_eq_zero fun n _ => if_neg (fun h => absurd h.1 (by omega))).symm

/-- A sum over the first `t + 1` blocks is one over the first `t` and one over the last. -/
theorem sum_split (t : ℕ) (ht : t < 200) (p : Fin 320000 → Prop) [DecidablePred p] (v : Fin 320000 → EReal) :
    (∑ n : Fin 320000, if n.val < (t + 1) * 1600 ∧ p n then v n else 0)
      = (∑ n : Fin 320000, if n.val < t * 1600 ∧ p n then v n else 0) + ∑ j, if p (nthRow t ht j) then v (nthRow t ht j) else 0 := by
  have hi : Function.Injective (nthRow t ht) := fun i j h => Fin.ext (by have := congrArg Fin.val h; unfold nthRow at this; simp only at this; omega)
  have e : (∑ j, if p (nthRow t ht j) then v (nthRow t ht j) else 0)
      = ∑ n : Fin 320000, if (t * 1600 ≤ n.val ∧ n.val < (t + 1) * 1600) ∧ p n then v n else 0 := by
    rw [← Finset.sum_filter, ← Finset.sum_filter]
    refine Finset.sum_bij (fun j _ => nthRow t ht j) (fun j hj => ?_) (fun i _ j _ h => hi h) (fun n hn => ?_) (fun j _ => rfl)
    · rw [Finset.mem_filter] at hj ⊢
      exact ⟨Finset.mem_univ _, by unfold nthRow; simp only; omega, hj.2⟩
    · rw [Finset.mem_filter] at hn
      have en : nthRow t ht ⟨n.val - t * 1600, by omega⟩ = n := Fin.ext (by unfold nthRow; simp only; omega)
      exact ⟨⟨n.val - t * 1600, by omega⟩, Finset.mem_filter.mpr ⟨Finset.mem_univ _, by rw [en]; exact hn.2.2⟩, en⟩
  rw [e, ← Finset.sum_add_distrib]
  refine Finset.sum_congr rfl fun n _ => ?_
  by_cases hp : p n
  · by_cases h1 : n.val < t * 1600
    · rw [if_pos ⟨by omega, hp⟩, if_pos ⟨h1, hp⟩, if_neg (fun h => by omega), add_zero]
    · by_cases h2 : n.val < (t + 1) * 1600
      · rw [if_pos ⟨h2, hp⟩, if_neg (fun h => h1 h.1), if_pos ⟨⟨by omega, h2⟩, hp⟩, zero_add]
      · rw [if_neg (fun h => h2 h.1), if_neg (fun h => h1 h.1), if_neg (fun h => h2 h.1.2), zero_add]
  · rw [if_neg (fun h => hp h.2), if_neg (fun h => hp h.2), if_neg (fun h => hp h.2), zero_add]

theorem sumOf_succ (hs : IdsSorted m) (c : Dev nD) (t : Fin cfg0.N) (g) (h : SumOf m c (aug m c) t.val g) :
    SumOf m c (aug m c) (t.val + 1) (blockG m hr c t g) := fun a q r => by
  rw [blockG_apply m hr hs, h, sum_split t.val t.isLt]

theorem stateF_maxOf (hs : IdsSorted m) (c : Dev nD) (k : ℕ) (hk : k ≤ 199) : MaxOf m c k (stateF m hr c k) := by
  induction k with
  | zero => exact maxOf_zero m c
  | succ k ih =>
    have hlt : k < cfg0.N := show k < 200 by omega
    have e : stateF m hr c (k + 1) = blockF m hr c ⟨k, hlt⟩ (stateF m hr c k) := by
      refine (iter_succ _ _ ⟨k, hlt⟩).trans ((pointF_eq m hr c ⟨k, hlt⟩ _ (fun h => ?_)).trans (if_neg (by simp only; omega)))
      have h0 : k = 0 := h
      subst h0
      rfl
    rw [e]
    exact maxOf_succ m hr hs c ⟨k, hlt⟩ _ (ih (by omega))

theorem stateG_sumOf (hs : IdsSorted m) (c : Dev nD) (k : ℕ) (hk : k ≤ 199) : SumOf m c (aug m c) k (stateG m hr c k) := by
  induction k with
  | zero => exact sumOf_zero m c _
  | succ k ih =>
    have hlt : k < cfg0.N := show k < 200 by omega
    have e : stateG m hr c (k + 1) = blockG m hr c ⟨k, hlt⟩ (stateG m hr c k) := by
      refine (iter_succ _ _ ⟨k, hlt⟩).trans ((pointG_eq m hr c ⟨k, hlt⟩ _ (fun h => ?_)).trans (if_neg (by simp only; omega)))
      have h0 : k = 0 := h
      subst h0
      rfl
    rw [e]
    exact sumOf_succ m hr hs c ⟨k, hlt⟩ _ (ih (by omega))

/-- The maxima after the last block: zero is put where there is none. -/
theorem stateF_last (hs : IdsSorted m) (c : Dev nD) : ∃ f, MaxOf m c 200 f ∧
    ∀ (a : Fin 250) (r : Fin 160) (l : Fin 256), stateF m hr c 200 (ix3 a r l) = if ⊥ < f (ix3 a r l) then f (ix3 a r l) else 0 := by
  have hlt : 199 < cfg0.N := by decide
  have e : stateF m hr c 200 = k0_pay1 (blockF m hr c ⟨199, hlt⟩ (stateF m hr c 199)) :=
    (iter_succ _ _ ⟨199, hlt⟩).trans ((pointF_eq m hr c ⟨199, hlt⟩ _ (fun h => absurd h (show ¬ 199 = 0 by decide))).trans (if_pos rfl))
  refine ⟨_, maxOf_succ m hr hs c ⟨199, hlt⟩ _ (stateF_maxOf m hr hs c 199 le_rfl), fun a r l => ?_⟩
  rw [e]
  generalize blockF m hr c ⟨199, hlt⟩ (stateF m hr c 199) = f
  pointwise [k0_pay1]
  rfl

/-- The sums after the last block, divided by the counts. -/
theorem stateG_last (hs : IdsSorted m) (c : Dev nD) : ∃ g, SumOf m c (aug m c) 200 g ∧
    ∀ (a : Fin 250) (q : Fin 4) (r : Fin 160), stateG m hr c 200 (ix3 a q r) = Ideal.div (g (ix3 a q r)) (max 1 (g (ix3 a 3 r))) := by
  have hlt : 199 < cfg0.N := by decide
  have e : stateG m hr c 200 = k0_pay2 (blockG m hr c ⟨199, hlt⟩ (stateG m hr c 199)) :=
    (iter_succ _ _ ⟨199, hlt⟩).trans ((pointG_eq m hr c ⟨199, hlt⟩ _ (fun h => absurd h (show ¬ 199 = 0 by decide))).trans (if_pos rfl))
  refine ⟨_, sumOf_succ m hr hs c ⟨199, hlt⟩ _ (stateG_sumOf m hr hs c 199 le_rfl), fun a q r => ?_⟩
  rw [e]
  generalize blockG m hr c ⟨199, hlt⟩ (stateG m hr c 199) = g
  pointwise [k0_pay2]

end Cert.Proof.KernelIdeal
-- ==== Proof.KI.Out.lean ====
/- What the program's two results hold when it ends. -/
module

public import proofs.«01_k».proof.Proof.KI.State

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (hr : IdsInRange m)

theorem block9 : ∀ t : Fin cfg0.N, win0_9.index t = ![0, 0, 0] := by decide +kernel
theorem block10 : ∀ t : Fin cfg0.N, win0_10.index t = ![0, 0, 0] := by decide +kernel

theorem out9 (c : Dev nD) : (dats m hr 0 c).arrAt 9 cfg0.N = stateF m hr c 200 := by
  refine (dats m hr 0 c).arrAt_eq_of_covers 9 _ (by decide +kernel) fun t hf y => ?_
  have ht : t.val = 199 := by
    have h : t.val < 200 := t.isLt
    have := (flush0_9 t).mp hf
    omega
  blk_simp
  rw [after0_9, ht]
  blk_ext [block9 t]

theorem out10 (c : Dev nD) : (dats m hr 0 c).arrAt 10 cfg0.N = stateG m hr c 200 := by
  refine (dats m hr 0 c).arrAt_eq_of_covers 10 _ (by decide +kernel) fun t hf y => ?_
  have ht : t.val = 199 := by
    have h : t.val < 200 := t.isLt
    have := (flush0_10 t).mp hf
    omega
  blk_simp
  rw [after0_10, ht]
  blk_ext [block10 t]

/-- What a buffer holds when the program ends. -/
abbrev W (c : Dev nD) (b : Ref sig .tc) := Pipeline.afterTail₀ cfgs (dats m hr) 0 (V0 m) [hostOps1] c b

theorem W_feats (c : Dev nD) (a : Fin 250) (r : Fin 160) (l : Fin 256) :
    W m hr c main_v97 (ix2 ⟨160 * a.val + r.val, by omega⟩ l) = stateF m hr c 200 (ix3 a r l) := by
  dsimp only [W]
  unfold Pipeline.afterTail₀
  after_reads_at
  exact congrFun ((Pipeline.withArrays_arr spec0 (by decide) c (V0 m c) (fun w => (dats m hr 0 c).arrAt w cfg0.N) 9).trans (out9 m hr c)) _

theorem W_coords (c : Dev nD) (a : Fin 250) (r : Fin 160) (q : Fin 3) :
    W m hr c main_v96 (ix2 ⟨160 * a.val + r.val, by omega⟩ q) = stateG m hr c 200 (ix3 a ⟨q.val, by omega⟩ r) := by
  dsimp only [W]
  unfold Pipeline.afterTail₀
  after_reads_at
  have e1 : (⟨(160 * a.val + r.val) / 160, by omega⟩ : Fin 250) = a := Fin.ext (by simp only; omega)
  have e2 : (⟨(160 * a.val + r.val) % 160, by omega⟩ : Fin 160) = r := Fin.ext (by simp only; omega)
  simp only [e1, e2]
  exact congrFun ((Pipeline.withArrays_arr spec0 (by decide) c (V0 m c) (fun w => (dats m hr 0 c).arrAt w cfg0.N) 10).trans (out10 m hr c)) _

end Cert.Proof.KernelIdeal
-- ==== Proof.Algebraic.lean ====
/- The kernel's program and the reference give the same two results. -/
module

public import proofs.«01_k».proof.Proof.Frames
public import proofs.«01_k».proof.Proof.Ref
public import proofs.«01_k».proof.Proof.KI.Out

@[expose] public section

set_option maxRecDepth 16384

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments are the same. -/
structure SameArgs (c : Dev Cert.KernelIdeal.nD) : Prop where
  feats : ReferenceIdeal.featsArg m' c = KernelIdeal.featsArg m c
  coords : ReferenceIdeal.coordsArg m' c = KernelIdeal.coordsArg m c
  ids : ReferenceIdeal.idsArg m' c = KernelIdeal.idsArg m c
  gamma : ReferenceIdeal.gammaArg m' c = KernelIdeal.gammaArg m c
  beta : ReferenceIdeal.betaArg m' c = KernelIdeal.betaArg m c
  weight : ReferenceIdeal.weightArg m' c = KernelIdeal.weightArg m c
  bias : ReferenceIdeal.biasArg m' c = KernelIdeal.biasArg m c

/-- The precondition orders the segments. -/
theorem ids_sorted (h : Pre_KernelIdeal_ids_sorted_weights_finite m) : KernelIdeal.IdsSorted m := by
  intro c
  have step : ∀ k (hk : k < 319999), KernelIdeal.seg m c ⟨k, by omega⟩ ≤ KernelIdeal.seg m c ⟨k + 1, by omega⟩ := fun k hk =>
    sorted_step _ _ _ _ _ _ _ (h c).2.1 ⟨k, hk⟩
  have up : ∀ d a (hd : a + d < 320000), KernelIdeal.seg m c ⟨a, by omega⟩ ≤ KernelIdeal.seg m c ⟨a + d, hd⟩ := by
    intro d
    induction d with
    | zero => exact fun a _ => le_rfl
    | succ d ih => exact fun a hd => (ih a (by omega)).trans (step (a + d) (by omega))
  intro a b hab
  obtain ⟨d, hd⟩ := Nat.exists_eq_add_of_le (show a.val ≤ b.val from hab)
  have := up d a.val (by have := b.isLt; omega)
  have e : b = ⟨a.val + d, by have := b.isLt; omega⟩ := Fin.ext hd
  rw [e]
  exact this

/-- Every product is a real number, so none is the mark of an empty segment. -/
theorem lin_real (h : Pre_KernelIdeal_ids_sorted_weights_finite m) (c) (n : Fin 320000) (l : Fin 256) :
    Linear.IsReal (KernelIdeal.lin m c n l) :=
  Linear.linear_real _ _ _ _
    (fun k => Linear.byFactor_real _ _ _ _ (gamma_real _ _ _ _ _ _ _ (h c).2.2.1 _) (beta_real _ _ _ _ _ _ _ (h c).2.2.2.1 _))
    (fun k => weight_real _ _ _ _ _ _ _ (h c).2.2.2.2.1 _) (bias_real _ _ _ _ _ _ _ (h c).2.2.2.2.2 _)

variable {m m'}

theorem seg_eq {c} (e : SameArgs m m' c) (n : Fin 320000) : ReferenceIdeal.seg m' c n = KernelIdeal.seg m c n := by
  unfold ReferenceIdeal.seg KernelIdeal.seg
  rw [e.ids]

/-- The two programs' products are the same. -/
theorem lin_eq {c} (e : SameArgs m m' c) (n : Fin 320000) (l : Fin 256) : ReferenceIdeal.lin m' c n l = KernelIdeal.lin m c n l := by
  unfold ReferenceIdeal.lin KernelIdeal.lin
  rw [Linear.byQuotient_eq, e.feats, e.gamma, e.beta, e.weight, e.bias]

/-- A count of rows is nought when there is none, and positive when there is one. -/
theorem count_pos (p : Fin 320000 → Prop) [DecidablePred p] : 0 < (∑ n, if p n then (1 : EReal) else 0) ↔ ∃ n, p n := by
  constructor
  · intro h
    by_contra hn
    have hz : ∀ n, ¬ p n := fun n hp => hn ⟨n, hp⟩
    simp only [hz, if_false, Finset.sum_const_zero, lt_irrefl] at h
  · rintro ⟨n, hn⟩
    refine lt_of_lt_of_le zero_lt_one ?_
    exact (if_pos hn).symm.le.trans (Finset.single_le_sum (f := fun n => if p n then (1 : EReal) else 0)
      (fun i _ => by split_ifs; exacts [zero_le_one, le_rfl]) (Finset.mem_univ n))

/-- The maximum over a segment's rows is the same: both are the least bound of the same products. -/
theorem feats_same (hr : KernelIdeal.IdsInRange m) (h : Pre_KernelIdeal_ids_sorted_weights_finite m) (c) (e : SameArgs m m' c)
    (a : Fin 250) (r : Fin 160) (l : Fin 256) :
    (Cert.ReferenceIdeal.Value.res_out0 m' c : Shape.Idx Cert.ReferenceIdeal.S40000x256 → EReal) (ix2 ⟨160 * a.val + r.val, by omega⟩ l)
      = KernelIdeal.stateF m hr c 200 (ix3 a r l) := by
  obtain ⟨f, hf, hF⟩ := KernelIdeal.stateF_last m hr (ids_sorted m h) c
  refine (ReferenceIdeal.feats_apply m' c _ l).trans (Eq.trans ?_ (hF a r l).symm)
  have hu : ∀ u, f (ix3 a r l) ≤ u ↔ ∀ n, KernelIdeal.seg m c n = ((160 * a.val + r.val : ℕ) : ℤ) → KernelIdeal.lin m c n l ≤ u := fun u =>
    (hf a r l u).trans ⟨fun q n hn => q n (by omega) hn, fun q n _ hn => q n hn⟩
  simp only [ReferenceIdeal.count, seg_eq e, lin_eq e]
  have hc := count_pos fun n => KernelIdeal.seg m c n = ((160 * a.val + r.val : ℕ) : ℤ)
  by_cases hx : ∃ n, KernelIdeal.seg m c n = ((160 * a.val + r.val : ℕ) : ℤ)
  · have hpos : ⊥ < f (ix3 a r l) := by
      obtain ⟨n, hn⟩ := hx
      obtain ⟨x, hxr⟩ := lin_real m h c n l
      refine lt_of_lt_of_le ?_ ((hu _).mp le_rfl n hn)
      rw [hxr]
      exact EReal.bot_lt_coe x
    rw [if_pos (hc.mpr hx), if_pos hpos]
    refine eq_of_forall_ge_iff (α := EReal) fun u => ?_
    rw [hu, Finset.fold_max_le]
    constructor
    · intro q n hn
      have := q.2 n (Finset.mem_univ n)
      rwa [if_pos hn] at this
    · refine fun q => ⟨bot_le, fun n _ => ?_⟩
      by_cases hn : KernelIdeal.seg m c n = ((160 * a.val + r.val : ℕ) : ℤ)
      · rw [if_pos hn]
        exact q n hn
      · rw [if_neg hn]
        exact bot_le
  · have hbot : f (ix3 a r l) = ⊥ := le_bot_iff.mp ((hu ⊥).mpr fun n hn => absurd ⟨n, hn⟩ hx)
    rw [if_neg (fun q => hx (hc.mp q)), hbot, if_neg (lt_irrefl _)]

/-- The mean over a segment's rows is the same. -/
theorem coords_same (hr : KernelIdeal.IdsInRange m) (h : Pre_KernelIdeal_ids_sorted_weights_finite m) (c) (e : SameArgs m m' c)
    (a : Fin 250) (r : Fin 160) (q : Fin 3) :
    ReferenceIdeal.res_out1 m' c (ix2 ⟨160 * a.val + r.val, by omega⟩ q) = KernelIdeal.stateG m hr c 200 (ix3 a ⟨q.val, by omega⟩ r) := by
  obtain ⟨g, hg, hG⟩ := KernelIdeal.stateG_last m hr (ids_sorted m h) c
  rw [hG, ReferenceIdeal.coords_apply, hg, hg]
  have hlt : ∀ n : Fin 320000, n.val < 200 * 1600 := fun n => by omega
  have h3 : ∀ n, KernelIdeal.aug m c (3 : Fin 4) n = 1 := fun n => dif_neg (by decide)
  have hq : ∀ n, KernelIdeal.aug m c (⟨q.val, by omega⟩ : Fin 4) n = KernelIdeal.coordsArg m c (ix2 n q) := fun n => dif_pos q.isLt
  simp only [ReferenceIdeal.count, seg_eq e, e.coords, hlt, true_and, h3, hq]

/-- The first result, the maxima, is the same. -/
theorem feats_result (hr : KernelIdeal.IdsInRange m) (h : Pre_KernelIdeal_ids_sorted_weights_finite m) (c) (e : SameArgs m m' c) :
    (Cert.ReferenceIdeal.Value.res_out0 m' c : Shape.Idx Cert.ReferenceIdeal.S40000x256 → EReal)
      = KernelIdeal.W m hr c Cert.KernelIdeal.main_v97 := by
  funext i
  obtain ⟨s, l, rfl⟩ : ∃ (s : Fin 40000) (l : Fin 256), i = ix2 s l := ⟨i 0, i 1, eq_ix2 i⟩
  have hs : s = ⟨160 * (s.val / 160) + s.val % 160, by omega⟩ := Fin.ext (by simp only; omega)
  rw [hs]
  exact (feats_same hr h c e ⟨s.val / 160, by omega⟩ ⟨s.val % 160, by omega⟩ l).trans
    (KernelIdeal.W_feats m hr c ⟨s.val / 160, by omega⟩ ⟨s.val % 160, by omega⟩ l).symm

/-- The second result, the means, is the same. -/
theorem coords_result (hr : KernelIdeal.IdsInRange m) (h : Pre_KernelIdeal_ids_sorted_weights_finite m) (c) (e : SameArgs m m' c) :
    ReferenceIdeal.res_out1 m' c = KernelIdeal.W m hr c Cert.KernelIdeal.main_v96 := by
  funext i
  obtain ⟨s, q, rfl⟩ : ∃ (s : Fin 40000) (q : Fin 3), i = ix2 s q := ⟨i 0, i 1, eq_ix2 i⟩
  have hs : s = ⟨160 * (s.val / 160) + s.val % 160, by omega⟩ := Fin.ext (by simp only; omega)
  rw [hs]
  exact (coords_same hr h c e ⟨s.val / 160, by omega⟩ ⟨s.val % 160, by omega⟩ q).trans
    (KernelIdeal.W_coords m hr c ⟨s.val / 160, by omega⟩ ⟨s.val % 160, by omega⟩ q).symm

open Cert.KernelIdeal Cert.KernelIdeal.Gen in
/-- The kernel's program ends with its two results at `W` and its arguments as they were. -/
theorem kernel_run (m : (ℓ : Loc nD τ sig) → Buf (Elt Ideal) ℓ) (g : Dev nD → PrngReg) (hr : KernelIdeal.IdsInRange m) :
    θ_run (defs (F := Ideal)) (onTc (τ := τ) (main (F := Ideal))) ⟨m, fun _ => 0, g⟩ (fun r => ∀ c : Dev nD,
      r.2.mem ((c.tc : Thread nD τ).loc main_v97) = KernelIdeal.W m hr c main_v97
      ∧ r.2.mem ((c.tc : Thread nD τ).loc main_v96) = KernelIdeal.W m hr c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have keep (b : Ref sig .tc) (h1) (h2) {r} (h : Pipeline.FramePost cfgs (KernelIdeal.dats m hr) 0
      (Pipeline.afterTail₀ cfgs (KernelIdeal.dats m hr) 0 (V0 m) [hostOps1]) r) (c : Dev nD) :
      r.2.mem ((c.tc : Thread nD τ).loc b) = KernelIdeal.W m hr c b := (h c).2 b (Pipeline.mem_restRefs_of b h1 h2)
  (θ_run (defs (F := Ideal)) _ _).mono (fun _ ⟨h, _⟩ c => ⟨keep main_v97 (by decide) (by decide) h c, keep main_v96 (by decide) (by decide) h c,
      ((h c).1 1).trans (((KernelIdeal.dats m hr 0 c).arrAt_in 1 rfl _).trans (V_main_arg0 m c)),
      (keep main_arg1 (by decide) (by decide) h c).trans (W_main_arg1 m _ c),
      (keep main_arg2 (by decide) (by decide) h c).trans (W_main_arg2 m _ c),
      (keep main_arg3 (by decide) (by decide) h c).trans (W_main_arg3 m _ c),
      (keep main_arg4 (by decide) (by decide) h c).trans (W_main_arg4 m _ c),
      (keep main_arg5 (by decide) (by decide) h c).trans (W_main_arg5 m _ c),
      (keep main_arg6 (by decide) (by decide) h c).trans (W_main_arg6 m _ c)⟩)
    (KernelIdeal.run_main (F := Ideal) m g hr)

/-- On sorted segments and finite parameters the kernel and the reference give the same results. -/
theorem algebraic : Cert.algebraic_KernelIdeal_ReferenceIdeal_pre_ids_sorted_weights_finite
    (hKernelIdeal := Cert.KernelIdeal.Gen.facts) (hReferenceIdeal := Cert.ReferenceIdeal.Gen.facts) := fun m g m' g' h same =>
  have hr := sorted_ids h
  have e (c) : SameArgs m m' c := ⟨(same c).1, (same c).2.1, (same c).2.2.1, (same c).2.2.2.1, (same c).2.2.2.2.1, (same c).2.2.2.2.2.1, (same c).2.2.2.2.2.2⟩
  ⟨fun c => KernelIdeal.W m hr c Cert.KernelIdeal.main_v97, fun c => KernelIdeal.W m hr c Cert.KernelIdeal.main_v96, kernel_run m g hr,
    (θ_run Cert.ReferenceIdeal.defs _ _).mono
      (fun _ q c => ⟨(q c).1.trans (feats_result hr h c (e c)), (q c).2.1.trans (coords_result hr h c (e c)), (q c).2.2⟩)
      (Cert.ReferenceIdeal.Value.run (F := Ideal) m' g')⟩

end Cert.Proof
-- ==== Proof.lean ====
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, rangeFacts, sortedFacts,
    frame_kernel, frame_ideal, frame_ideal_sorted, frame_reference, frame_reference_sorted, preserves, algebraic⟩

end Cert.Proof
